-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S4x1024 : Shape := ⟨2, ![4, 1024]⟩
abbrev S3x16x4x1024 : Shape := ⟨4, ![3, 16, 4, 1024]⟩
abbrev S3x16 : Shape := ⟨2, ![3, 16]⟩
abbrev S_ : Shape := ⟨0, ![]⟩
abbrev S1024x512 : Shape := ⟨2, ![1024, 512]⟩
abbrev S64x512 : Shape := ⟨2, ![64, 512]⟩
abbrev S512x1024 : Shape := ⟨2, ![512, 1024]⟩
abbrev S1x1 : Shape := ⟨2, ![1, 1]⟩
abbrev S1x1x4x1024 : Shape := ⟨4, ![1, 1, 4, 1024]⟩

abbrev nBuf : Space → Nat
  | .hbm => 8
  | .vmem => 14
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .bf16⟩
  | .local _ .vmem, ⟨10, _⟩ => ⟨S4x1024, .f32⟩
  | .local _ .vmem, ⟨11, _⟩ => ⟨S4x1024, .bf16⟩
  | .local _ .vmem, ⟨12, _⟩ => ⟨S64x1024, .bf16⟩
  | .local _ .vmem, ⟨13, _⟩ => ⟨S3x16x4x1024, .bf16⟩
  | _, _ => ⟨S64x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 201 → Bool
  | ⟨i, _⟩ => dmaSemScopedAt i

abbrev sig : RefSig :=
  (ofTc nBuf bufTy 1 201 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_91 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v110 : BitVec 32 := Scalar.addi v2 c1_i32_91
  let c16_i32_92 : BitVec 32 := 16#32
  let v111 : BitVec 32 := Scalar.remsi v110 c16_i32_92
  let c4_i32_93 : BitVec 32 := 4#32
  let v112 : BitVec 32 := Scalar.muli v111 c4_i32_93
  let c0_i32_104 : BitVec 32 := 0#32
  ![v112.toNat, 0]
def k0_dev16 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_91 : BitVec 32 := 1#32
  let v110 : BitVec 32 := Scalar.addi v2 c1_i32_91
  let c16_i32_92 : BitVec 32 := 16#32
  let v111 : BitVec 32 := Scalar.remsi v110 c16_i32_92
  let c1_i32_100 : BitVec 32 := 1#32
  let v113 : BitVec 32 := Scalar.muli v111 c1_i32_100
  let v114 : BitVec 32 := Scalar.addi c0_i32_101 v113
  v114.toNat
def k0_dev17 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_105 : BitVec 32 := 2#32
  let v122 : BitVec 32 := Scalar.addi v2 c2_i32_105
  let c16_i32_106 : BitVec 32 := 16#32
  let v123 : BitVec 32 := Scalar.remsi v122 c16_i32_106
  let c1_i32_114 : BitVec 32 := 1#32
  let v125 : BitVec 32 := Scalar.muli v123 c1_i32_114
  let v126 : BitVec 32 := Scalar.addi c0_i32_115 v125
  v126.toNat
def k0_dev18 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_119 : BitVec 32 := 3#32
  let v134 : BitVec 32 := Scalar.addi v2 c3_i32_119
  let c16_i32_120 : BitVec 32 := 16#32
  let v135 : BitVec 32 := Scalar.remsi v134 c16_i32_120
  let c1_i32_128 : BitVec 32 := 1#32
  let v137 : BitVec 32 := Scalar.muli v135 c1_i32_128
  let v138 : BitVec 32 := Scalar.addi c0_i32_129 v137
  v138.toNat
def k0_dev19 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_133 : BitVec 32 := 4#32
  let v146 : BitVec 32 := Scalar.addi v2 c4_i32_133
  let c16_i32_134 : BitVec 32 := 16#32
  let v147 : BitVec 32 := Scalar.remsi v146 c16_i32_134
  let c1_i32_142 : BitVec 32 := 1#32
  let v149 : BitVec 32 := Scalar.muli v147 c1_i32_142
  let v150 : BitVec 32 := Scalar.addi c0_i32_143 v149
  v150.toNat
def k0_dev20 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_147 : BitVec 32 := 5#32
  let v158 : BitVec 32 := Scalar.addi v2 c5_i32_147
  let c16_i32_148 : BitVec 32 := 16#32
  let v159 : BitVec 32 := Scalar.remsi v158 c16_i32_148
  let c1_i32_156 : BitVec 32 := 1#32
  let v161 : BitVec 32 := Scalar.muli v159 c1_i32_156
  let v162 : BitVec 32 := Scalar.addi c0_i32_157 v161
  v162.toNat
def k0_dev21 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_161 : BitVec 32 := 6#32
  let v170 : BitVec 32 := Scalar.addi v2 c6_i32_161
  let c16_i32_162 : BitVec 32 := 16#32
  let v171 : BitVec 32 := Scalar.remsi v170 c16_i32_162
  let c1_i32_170 : BitVec 32 := 1#32
  let v173 : BitVec 32 := Scalar.muli v171 c1_i32_170
  let v174 : BitVec 32 := Scalar.addi c0_i32_171 v173
  v174.toNat
def k0_dev22 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_175 : BitVec 32 := 7#32
  let v182 : BitVec 32 := Scalar.addi v2 c7_i32_175
  let c16_i32_176 : BitVec 32 := 16#32
  let v183 : BitVec 32 := Scalar.remsi v182 c16_i32_176
  let c1_i32_184 : BitVec 32 := 1#32
  let v185 : BitVec 32 := Scalar.muli v183 c1_i32_184
  let v186 : BitVec 32 := Scalar.addi c0_i32_185 v185
  v186.toNat
def k0_dev23 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_189 : BitVec 32 := 8#32
  let v194 : BitVec 32 := Scalar.addi v2 c8_i32_189
  let c16_i32_190 : BitVec 32 := 16#32
  let v195 : BitVec 32 := Scalar.remsi v194 c16_i32_190
  let c1_i32_198 : BitVec 32 := 1#32
  let v197 : BitVec 32 := Scalar.muli v195 c1_i32_198
  let v198 : BitVec 32 := Scalar.addi c0_i32_199 v197
  v198.toNat
def k0_dev24 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_203 : BitVec 32 := 9#32
  let v206 : BitVec 32 := Scalar.addi v2 c9_i32_203
  let c16_i32_204 : BitVec 32 := 16#32
  let v207 : BitVec 32 := Scalar.remsi v206 c16_i32_204
  let c1_i32_212 : BitVec 32 := 1#32
  let v209 : BitVec 32 := Scalar.muli v207 c1_i32_212
  let v210 : BitVec 32 := Scalar.addi c0_i32_213 v209
  v210.toNat
def k0_dev25 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_217 : BitVec 32 := 10#32
  let v218 : BitVec 32 := Scalar.addi v2 c10_i32_217
  let c16_i32_218 : BitVec 32 := 16#32
  let v219 : BitVec 32 := Scalar.remsi v218 c16_i32_218
  let c1_i32_226 : BitVec 32 := 1#32
  let v221 : BitVec 32 := Scalar.muli v219 c1_i32_226
  let v222 : BitVec 32 := Scalar.addi c0_i32_227 v221
  v222.toNat
def k0_dev26 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_231 : BitVec 32 := 11#32
  let v230 : BitVec 32 := Scalar.addi v2 c11_i32_231
  let c16_i32_232 : BitVec 32 := 16#32
  let v231 : BitVec 32 := Scalar.remsi v230 c16_i32_232
  let c1_i32_240 : BitVec 32 := 1#32
  let v233 : BitVec 32 := Scalar.muli v231 c1_i32_240
  let v234 : BitVec 32 := Scalar.addi c0_i32_241 v233
  v234.toNat
def k0_dev27 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_245 : BitVec 32 := 12#32
  let v242 : BitVec 32 := Scalar.addi v2 c12_i32_245
  let c16_i32_246 : BitVec 32 := 16#32
  let v243 : BitVec 32 := Scalar.remsi v242 c16_i32_246
  let c1_i32_254 : BitVec 32 := 1#32
  let v245 : BitVec 32 := Scalar.muli v243 c1_i32_254
  let v246 : BitVec 32 := Scalar.addi c0_i32_255 v245
  v246.toNat
def k0_dev28 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_259 : BitVec 32 := 13#32
  let v254 : BitVec 32 := Scalar.addi v2 c13_i32_259
  let c16_i32_260 : BitVec 32 := 16#32
  let v255 : BitVec 32 := Scalar.remsi v254 c16_i32_260
  let c1_i32_268 : BitVec 32 := 1#32
  let v257 : BitVec 32 := Scalar.muli v255 c1_i32_268
  let v258 : BitVec 32 := Scalar.addi c0_i32_269 v257
  v258.toNat
def k0_dev29 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_273 : BitVec 32 := 14#32
  let v266 : BitVec 32 := Scalar.addi v2 c14_i32_273
  let c16_i32_274 : BitVec 32 := 16#32
  let v267 : BitVec 32 := Scalar.remsi v266 c16_i32_274
  let c1_i32_282 : BitVec 32 := 1#32
  let v269 : BitVec 32 := Scalar.muli v267 c1_i32_282
  let v270 : BitVec 32 := Scalar.addi c0_i32_283 v269
  v270.toNat
def k0_dev30 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_287 : BitVec 32 := 15#32
  let v278 : BitVec 32 := Scalar.addi v2 c15_i32_287
  let c16_i32_288 : BitVec 32 := 16#32
  let v279 : BitVec 32 := Scalar.remsi v278 c16_i32_288
  let c1_i32_296 : BitVec 32 := 1#32
  let v281 : BitVec 32 := Scalar.muli v279 c1_i32_296
  let v282 : BitVec 32 := Scalar.addi c0_i32_297 v281
  v282.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_301 : BitVec 32 := 4#32
  let v290 : BitVec 32 := Scalar.muli v2 c4_i32_301
  let c0_i32_302 : BitVec 32 := 0#32
  ![v290.toNat, 0]
def k0_dev31 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_518 : BitVec 32 := 1#32
  let v463 : BitVec 32 := Scalar.addi v2 c1_i32_518
  let c16_i32_519 : BitVec 32 := 16#32
  let v464 : BitVec 32 := Scalar.remsi v463 c16_i32_519
  let c1_i32_525 : BitVec 32 := 1#32
  let v466 : BitVec 32 := Scalar.muli v464 c1_i32_525
  let v467 : BitVec 32 := Scalar.addi c0_i32_526 v466
  v467.toNat
def k0_dev32 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_528 : BitVec 32 := 2#32
  let v473 : BitVec 32 := Scalar.addi v2 c2_i32_528
  let c16_i32_529 : BitVec 32 := 16#32
  let v474 : BitVec 32 := Scalar.remsi v473 c16_i32_529
  let c1_i32_535 : BitVec 32 := 1#32
  let v476 : BitVec 32 := Scalar.muli v474 c1_i32_535
  let v477 : BitVec 32 := Scalar.addi c0_i32_536 v476
  v477.toNat
def k0_dev33 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_538 : BitVec 32 := 3#32
  let v483 : BitVec 32 := Scalar.addi v2 c3_i32_538
  let c16_i32_539 : BitVec 32 := 16#32
  let v484 : BitVec 32 := Scalar.remsi v483 c16_i32_539
  let c1_i32_545 : BitVec 32 := 1#32
  let v486 : BitVec 32 := Scalar.muli v484 c1_i32_545
  let v487 : BitVec 32 := Scalar.addi c0_i32_546 v486
  v487.toNat
def k0_dev34 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_548 : BitVec 32 := 4#32
  let v493 : BitVec 32 := Scalar.addi v2 c4_i32_548
  let c16_i32_549 : BitVec 32 := 16#32
  let v494 : BitVec 32 := Scalar.remsi v493 c16_i32_549
  let c1_i32_555 : BitVec 32 := 1#32
  let v496 : BitVec 32 := Scalar.muli v494 c1_i32_555
  let v497 : BitVec 32 := Scalar.addi c0_i32_556 v496
  v497.toNat
def k0_dev35 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_558 : BitVec 32 := 5#32
  let v503 : BitVec 32 := Scalar.addi v2 c5_i32_558
  let c16_i32_559 : BitVec 32 := 16#32
  let v504 : BitVec 32 := Scalar.remsi v503 c16_i32_559
  let c1_i32_565 : BitVec 32 := 1#32
  let v506 : BitVec 32 := Scalar.muli v504 c1_i32_565
  let v507 : BitVec 32 := Scalar.addi c0_i32_566 v506
  v507.toNat
def k0_dev36 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_568 : BitVec 32 := 6#32
  let v513 : BitVec 32 := Scalar.addi v2 c6_i32_568
  let c16_i32_569 : BitVec 32 := 16#32
  let v514 : BitVec 32 := Scalar.remsi v513 c16_i32_569
  let c1_i32_575 : BitVec 32 := 1#32
  let v516 : BitVec 32 := Scalar.muli v514 c1_i32_575
  let v517 : BitVec 32 := Scalar.addi c0_i32_576 v516
  v517.toNat
def k0_dev37 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_578 : BitVec 32 := 7#32
  let v523 : BitVec 32 := Scalar.addi v2 c7_i32_578
  let c16_i32_579 : BitVec 32 := 16#32
  let v524 : BitVec 32 := Scalar.remsi v523 c16_i32_579
  let c1_i32_585 : BitVec 32 := 1#32
  let v526 : BitVec 32 := Scalar.muli v524 c1_i32_585
  let v527 : BitVec 32 := Scalar.addi c0_i32_586 v526
  v527.toNat
def k0_dev38 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_588 : BitVec 32 := 8#32
  let v533 : BitVec 32 := Scalar.addi v2 c8_i32_588
  let c16_i32_589 : BitVec 32 := 16#32
  let v534 : BitVec 32 := Scalar.remsi v533 c16_i32_589
  let c1_i32_595 : BitVec 32 := 1#32
  let v536 : BitVec 32 := Scalar.muli v534 c1_i32_595
  let v537 : BitVec 32 := Scalar.addi c0_i32_596 v536
  v537.toNat
def k0_dev39 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_598 : BitVec 32 := 9#32
  let v543 : BitVec 32 := Scalar.addi v2 c9_i32_598
  let c16_i32_599 : BitVec 32 := 16#32
  let v544 : BitVec 32 := Scalar.remsi v543 c16_i32_599
  let c1_i32_605 : BitVec 32 := 1#32
  let v546 : BitVec 32 := Scalar.muli v544 c1_i32_605
  let v547 : BitVec 32 := Scalar.addi c0_i32_606 v546
  v547.toNat
def k0_dev40 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_608 : BitVec 32 := 10#32
  let v553 : BitVec 32 := Scalar.addi v2 c10_i32_608
  let c16_i32_609 : BitVec 32 := 16#32
  let v554 : BitVec 32 := Scalar.remsi v553 c16_i32_609
  let c1_i32_615 : BitVec 32 := 1#32
  let v556 : BitVec 32 := Scalar.muli v554 c1_i32_615
  let v557 : BitVec 32 := Scalar.addi c0_i32_616 v556
  v557.toNat
def k0_dev41 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_618 : BitVec 32 := 11#32
  let v563 : BitVec 32 := Scalar.addi v2 c11_i32_618
  let c16_i32_619 : BitVec 32 := 16#32
  let v564 : BitVec 32 := Scalar.remsi v563 c16_i32_619
  let c1_i32_625 : BitVec 32 := 1#32
  let v566 : BitVec 32 := Scalar.muli v564 c1_i32_625
  let v567 : BitVec 32 := Scalar.addi c0_i32_626 v566
  v567.toNat
def k0_dev42 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_628 : BitVec 32 := 12#32
  let v573 : BitVec 32 := Scalar.addi v2 c12_i32_628
  let c16_i32_629 : BitVec 32 := 16#32
  let v574 : BitVec 32 := Scalar.remsi v573 c16_i32_629
  let c1_i32_635 : BitVec 32 := 1#32
  let v576 : BitVec 32 := Scalar.muli v574 c1_i32_635
  let v577 : BitVec 32 := Scalar.addi c0_i32_636 v576
  v577.toNat
def k0_dev43 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_638 : BitVec 32 := 13#32
  let v583 : BitVec 32 := Scalar.addi v2 c13_i32_638
  let c16_i32_639 : BitVec 32 := 16#32
  let v584 : BitVec 32 := Scalar.remsi v583 c16_i32_639
  let c1_i32_645 : BitVec 32 := 1#32
  let v586 : BitVec 32 := Scalar.muli v584 c1_i32_645
  let v587 : BitVec 32 := Scalar.addi c0_i32_646 v586
  v587.toNat
def k0_dev44 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_648 : BitVec 32 := 14#32
  let v593 : BitVec 32 := Scalar.addi v2 c14_i32_648
  let c16_i32_649 : BitVec 32 := 16#32
  let v594 : BitVec 32 := Scalar.remsi v593 c16_i32_649
  let c1_i32_655 : BitVec 32 := 1#32
  let v596 : BitVec 32 := Scalar.muli v594 c1_i32_655
  let v597 : BitVec 32 := Scalar.addi c0_i32_656 v596
  v597.toNat
def k0_dev45 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_658 : BitVec 32 := 15#32
  let v603 : BitVec 32 := Scalar.addi v2 c15_i32_658
  let c16_i32_659 : BitVec 32 := 16#32
  let v604 : BitVec 32 := Scalar.remsi v603 c16_i32_659
  let c1_i32_665 : BitVec 32 := 1#32
  let v606 : BitVec 32 := Scalar.muli v604 c1_i32_665
  let v607 : BitVec 32 := Scalar.addi c0_i32_666 v606
  v607.toNat
def k0_dev46 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_668 : BitVec 32 := 0#32
  let v613 : BitVec 32 := Scalar.addi v2 c0_i32_668
  let c16_i32_669 : BitVec 32 := 16#32
  let v614 : BitVec 32 := Scalar.remsi v613 c16_i32_669
  let c1_i32_675 : BitVec 32 := 1#32
  let v616 : BitVec 32 := Scalar.muli v614 c1_i32_675
  let v617 : BitVec 32 := Scalar.addi c0_i32_676 v616
  v617.toNat
def k0_dev47 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1071 : BitVec 32 := 1#32
  let v872 : BitVec 32 := Scalar.addi v2 c1_i32_1071
  let c16_i32_1072 : BitVec 32 := 16#32
  let v873 : BitVec 32 := Scalar.remsi v872 c16_i32_1072
  let c1_i32_1080 : BitVec 32 := 1#32
  let v875 : BitVec 32 := Scalar.muli v873 c1_i32_1080
  let v876 : BitVec 32 := Scalar.addi c0_i32_1081 v875
  v876.toNat
def k0_dev48 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1085 : BitVec 32 := 2#32
  let v884 : BitVec 32 := Scalar.addi v2 c2_i32_1085
  let c16_i32_1086 : BitVec 32 := 16#32
  let v885 : BitVec 32 := Scalar.remsi v884 c16_i32_1086
  let c1_i32_1094 : BitVec 32 := 1#32
  let v887 : BitVec 32 := Scalar.muli v885 c1_i32_1094
  let v888 : BitVec 32 := Scalar.addi c0_i32_1095 v887
  v888.toNat
def k0_dev49 (d0 : Dev nD) : Nat :=
  let c0_i32_1109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1099 : BitVec 32 := 3#32
  let v896 : BitVec 32 := Scalar.addi v2 c3_i32_1099
  let c16_i32_1100 : BitVec 32 := 16#32
  let v897 : BitVec 32 := Scalar.remsi v896 c16_i32_1100
  let c1_i32_1108 : BitVec 32 := 1#32
  let v899 : BitVec 32 := Scalar.muli v897 c1_i32_1108
  let v900 : BitVec 32 := Scalar.addi c0_i32_1109 v899
  v900.toNat
def k0_dev50 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1113 : BitVec 32 := 4#32
  let v908 : BitVec 32 := Scalar.addi v2 c4_i32_1113
  let c16_i32_1114 : BitVec 32 := 16#32
  let v909 : BitVec 32 := Scalar.remsi v908 c16_i32_1114
  let c1_i32_1122 : BitVec 32 := 1#32
  let v911 : BitVec 32 := Scalar.muli v909 c1_i32_1122
  let v912 : BitVec 32 := Scalar.addi c0_i32_1123 v911
  v912.toNat
def k0_dev51 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1127 : BitVec 32 := 5#32
  let v920 : BitVec 32 := Scalar.addi v2 c5_i32_1127
  let c16_i32_1128 : BitVec 32 := 16#32
  let v921 : BitVec 32 := Scalar.remsi v920 c16_i32_1128
  let c1_i32_1136 : BitVec 32 := 1#32
  let v923 : BitVec 32 := Scalar.muli v921 c1_i32_1136
  let v924 : BitVec 32 := Scalar.addi c0_i32_1137 v923
  v924.toNat
def k0_dev52 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1141 : BitVec 32 := 6#32
  let v932 : BitVec 32 := Scalar.addi v2 c6_i32_1141
  let c16_i32_1142 : BitVec 32 := 16#32
  let v933 : BitVec 32 := Scalar.remsi v932 c16_i32_1142
  let c1_i32_1150 : BitVec 32 := 1#32
  let v935 : BitVec 32 := Scalar.muli v933 c1_i32_1150
  let v936 : BitVec 32 := Scalar.addi c0_i32_1151 v935
  v936.toNat
def k0_dev53 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1155 : BitVec 32 := 7#32
  let v944 : BitVec 32 := Scalar.addi v2 c7_i32_1155
  let c16_i32_1156 : BitVec 32 := 16#32
  let v945 : BitVec 32 := Scalar.remsi v944 c16_i32_1156
  let c1_i32_1164 : BitVec 32 := 1#32
  let v947 : BitVec 32 := Scalar.muli v945 c1_i32_1164
  let v948 : BitVec 32 := Scalar.addi c0_i32_1165 v947
  v948.toNat
def k0_dev54 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1169 : BitVec 32 := 8#32
  let v956 : BitVec 32 := Scalar.addi v2 c8_i32_1169
  let c16_i32_1170 : BitVec 32 := 16#32
  let v957 : BitVec 32 := Scalar.remsi v956 c16_i32_1170
  let c1_i32_1178 : BitVec 32 := 1#32
  let v959 : BitVec 32 := Scalar.muli v957 c1_i32_1178
  let v960 : BitVec 32 := Scalar.addi c0_i32_1179 v959
  v960.toNat
def k0_dev55 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1183 : BitVec 32 := 9#32
  let v968 : BitVec 32 := Scalar.addi v2 c9_i32_1183
  let c16_i32_1184 : BitVec 32 := 16#32
  let v969 : BitVec 32 := Scalar.remsi v968 c16_i32_1184
  let c1_i32_1192 : BitVec 32 := 1#32
  let v971 : BitVec 32 := Scalar.muli v969 c1_i32_1192
  let v972 : BitVec 32 := Scalar.addi c0_i32_1193 v971
  v972.toNat
def k0_dev56 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1197 : BitVec 32 := 10#32
  let v980 : BitVec 32 := Scalar.addi v2 c10_i32_1197
  let c16_i32_1198 : BitVec 32 := 16#32
  let v981 : BitVec 32 := Scalar.remsi v980 c16_i32_1198
  let c1_i32_1206 : BitVec 32 := 1#32
  let v983 : BitVec 32 := Scalar.muli v981 c1_i32_1206
  let v984 : BitVec 32 := Scalar.addi c0_i32_1207 v983
  v984.toNat
def k0_dev57 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1211 : BitVec 32 := 11#32
  let v992 : BitVec 32 := Scalar.addi v2 c11_i32_1211
  let c16_i32_1212 : BitVec 32 := 16#32
  let v993 : BitVec 32 := Scalar.remsi v992 c16_i32_1212
  let c1_i32_1220 : BitVec 32 := 1#32
  let v995 : BitVec 32 := Scalar.muli v993 c1_i32_1220
  let v996 : BitVec 32 := Scalar.addi c0_i32_1221 v995
  v996.toNat
def k0_dev58 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1225 : BitVec 32 := 12#32
  let v1004 : BitVec 32 := Scalar.addi v2 c12_i32_1225
  let c16_i32_1226 : BitVec 32 := 16#32
  let v1005 : BitVec 32 := Scalar.remsi v1004 c16_i32_1226
  let c1_i32_1234 : BitVec 32 := 1#32
  let v1007 : BitVec 32 := Scalar.muli v1005 c1_i32_1234
  let v1008 : BitVec 32 := Scalar.addi c0_i32_1235 v1007
  v1008.toNat
def k0_dev59 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1239 : BitVec 32 := 13#32
  let v1016 : BitVec 32 := Scalar.addi v2 c13_i32_1239
  let c16_i32_1240 : BitVec 32 := 16#32
  let v1017 : BitVec 32 := Scalar.remsi v1016 c16_i32_1240
  let c1_i32_1248 : BitVec 32 := 1#32
  let v1019 : BitVec 32 := Scalar.muli v1017 c1_i32_1248
  let v1020 : BitVec 32 := Scalar.addi c0_i32_1249 v1019
  v1020.toNat
def k0_dev60 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1253 : BitVec 32 := 14#32
  let v1028 : BitVec 32 := Scalar.addi v2 c14_i32_1253
  let c16_i32_1254 : BitVec 32 := 16#32
  let v1029 : BitVec 32 := Scalar.remsi v1028 c16_i32_1254
  let c1_i32_1262 : BitVec 32 := 1#32
  let v1031 : BitVec 32 := Scalar.muli v1029 c1_i32_1262
  let v1032 : BitVec 32 := Scalar.addi c0_i32_1263 v1031
  v1032.toNat
def k0_dev61 (d0 : Dev nD) : Nat :=
  let c0_i32_1277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1267 : BitVec 32 := 15#32
  let v1040 : BitVec 32 := Scalar.addi v2 c15_i32_1267
  let c16_i32_1268 : BitVec 32 := 16#32
  let v1041 : BitVec 32 := Scalar.remsi v1040 c16_i32_1268
  let c1_i32_1276 : BitVec 32 := 1#32
  let v1043 : BitVec 32 := Scalar.muli v1041 c1_i32_1276
  let v1044 : BitVec 32 := Scalar.addi c0_i32_1277 v1043
  v1044.toNat
def k0_dev62 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1513 : BitVec 32 := 1#32
  let v1225 : BitVec 32 := Scalar.addi v2 c1_i32_1513
  let c16_i32_1514 : BitVec 32 := 16#32
  let v1226 : BitVec 32 := Scalar.remsi v1225 c16_i32_1514
  let c1_i32_1520 : BitVec 32 := 1#32
  let v1228 : BitVec 32 := Scalar.muli v1226 c1_i32_1520
  let v1229 : BitVec 32 := Scalar.addi c0_i32_1521 v1228
  v1229.toNat
def k0_dev63 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1523 : BitVec 32 := 2#32
  let v1235 : BitVec 32 := Scalar.addi v2 c2_i32_1523
  let c16_i32_1524 : BitVec 32 := 16#32
  let v1236 : BitVec 32 := Scalar.remsi v1235 c16_i32_1524
  let c1_i32_1530 : BitVec 32 := 1#32
  let v1238 : BitVec 32 := Scalar.muli v1236 c1_i32_1530
  let v1239 : BitVec 32 := Scalar.addi c0_i32_1531 v1238
  v1239.toNat
def k0_dev64 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1533 : BitVec 32 := 3#32
  let v1245 : BitVec 32 := Scalar.addi v2 c3_i32_1533
  let c16_i32_1534 : BitVec 32 := 16#32
  let v1246 : BitVec 32 := Scalar.remsi v1245 c16_i32_1534
  let c1_i32_1540 : BitVec 32 := 1#32
  let v1248 : BitVec 32 := Scalar.muli v1246 c1_i32_1540
  let v1249 : BitVec 32 := Scalar.addi c0_i32_1541 v1248
  v1249.toNat
def k0_dev65 (d0 : Dev nD) : Nat :=
  let c0_i32_1551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1543 : BitVec 32 := 4#32
  let v1255 : BitVec 32 := Scalar.addi v2 c4_i32_1543
  let c16_i32_1544 : BitVec 32 := 16#32
  let v1256 : BitVec 32 := Scalar.remsi v1255 c16_i32_1544
  let c1_i32_1550 : BitVec 32 := 1#32
  let v1258 : BitVec 32 := Scalar.muli v1256 c1_i32_1550
  let v1259 : BitVec 32 := Scalar.addi c0_i32_1551 v1258
  v1259.toNat
def k0_dev66 (d0 : Dev nD) : Nat :=
  let c0_i32_1561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1553 : BitVec 32 := 5#32
  let v1265 : BitVec 32 := Scalar.addi v2 c5_i32_1553
  let c16_i32_1554 : BitVec 32 := 16#32
  let v1266 : BitVec 32 := Scalar.remsi v1265 c16_i32_1554
  let c1_i32_1560 : BitVec 32 := 1#32
  let v1268 : BitVec 32 := Scalar.muli v1266 c1_i32_1560
  let v1269 : BitVec 32 := Scalar.addi c0_i32_1561 v1268
  v1269.toNat
def k0_dev67 (d0 : Dev nD) : Nat :=
  let c0_i32_1571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1563 : BitVec 32 := 6#32
  let v1275 : BitVec 32 := Scalar.addi v2 c6_i32_1563
  let c16_i32_1564 : BitVec 32 := 16#32
  let v1276 : BitVec 32 := Scalar.remsi v1275 c16_i32_1564
  let c1_i32_1570 : BitVec 32 := 1#32
  let v1278 : BitVec 32 := Scalar.muli v1276 c1_i32_1570
  let v1279 : BitVec 32 := Scalar.addi c0_i32_1571 v1278
  v1279.toNat
def k0_dev68 (d0 : Dev nD) : Nat :=
  let c0_i32_1581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1573 : BitVec 32 := 7#32
  let v1285 : BitVec 32 := Scalar.addi v2 c7_i32_1573
  let c16_i32_1574 : BitVec 32 := 16#32
  let v1286 : BitVec 32 := Scalar.remsi v1285 c16_i32_1574
  let c1_i32_1580 : BitVec 32 := 1#32
  let v1288 : BitVec 32 := Scalar.muli v1286 c1_i32_1580
  let v1289 : BitVec 32 := Scalar.addi c0_i32_1581 v1288
  v1289.toNat
def k0_dev69 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1583 : BitVec 32 := 8#32
  let v1295 : BitVec 32 := Scalar.addi v2 c8_i32_1583
  let c16_i32_1584 : BitVec 32 := 16#32
  let v1296 : BitVec 32 := Scalar.remsi v1295 c16_i32_1584
  let c1_i32_1590 : BitVec 32 := 1#32
  let v1298 : BitVec 32 := Scalar.muli v1296 c1_i32_1590
  let v1299 : BitVec 32 := Scalar.addi c0_i32_1591 v1298
  v1299.toNat
def k0_dev70 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1593 : BitVec 32 := 9#32
  let v1305 : BitVec 32 := Scalar.addi v2 c9_i32_1593
  let c16_i32_1594 : BitVec 32 := 16#32
  let v1306 : BitVec 32 := Scalar.remsi v1305 c16_i32_1594
  let c1_i32_1600 : BitVec 32 := 1#32
  let v1308 : BitVec 32 := Scalar.muli v1306 c1_i32_1600
  let v1309 : BitVec 32 := Scalar.addi c0_i32_1601 v1308
  v1309.toNat
def k0_dev71 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1603 : BitVec 32 := 10#32
  let v1315 : BitVec 32 := Scalar.addi v2 c10_i32_1603
  let c16_i32_1604 : BitVec 32 := 16#32
  let v1316 : BitVec 32 := Scalar.remsi v1315 c16_i32_1604
  let c1_i32_1610 : BitVec 32 := 1#32
  let v1318 : BitVec 32 := Scalar.muli v1316 c1_i32_1610
  let v1319 : BitVec 32 := Scalar.addi c0_i32_1611 v1318
  v1319.toNat
def k0_dev72 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1613 : BitVec 32 := 11#32
  let v1325 : BitVec 32 := Scalar.addi v2 c11_i32_1613
  let c16_i32_1614 : BitVec 32 := 16#32
  let v1326 : BitVec 32 := Scalar.remsi v1325 c16_i32_1614
  let c1_i32_1620 : BitVec 32 := 1#32
  let v1328 : BitVec 32 := Scalar.muli v1326 c1_i32_1620
  let v1329 : BitVec 32 := Scalar.addi c0_i32_1621 v1328
  v1329.toNat
def k0_dev73 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1623 : BitVec 32 := 12#32
  let v1335 : BitVec 32 := Scalar.addi v2 c12_i32_1623
  let c16_i32_1624 : BitVec 32 := 16#32
  let v1336 : BitVec 32 := Scalar.remsi v1335 c16_i32_1624
  let c1_i32_1630 : BitVec 32 := 1#32
  let v1338 : BitVec 32 := Scalar.muli v1336 c1_i32_1630
  let v1339 : BitVec 32 := Scalar.addi c0_i32_1631 v1338
  v1339.toNat
def k0_dev74 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1633 : BitVec 32 := 13#32
  let v1345 : BitVec 32 := Scalar.addi v2 c13_i32_1633
  let c16_i32_1634 : BitVec 32 := 16#32
  let v1346 : BitVec 32 := Scalar.remsi v1345 c16_i32_1634
  let c1_i32_1640 : BitVec 32 := 1#32
  let v1348 : BitVec 32 := Scalar.muli v1346 c1_i32_1640
  let v1349 : BitVec 32 := Scalar.addi c0_i32_1641 v1348
  v1349.toNat
def k0_dev75 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1643 : BitVec 32 := 14#32
  let v1355 : BitVec 32 := Scalar.addi v2 c14_i32_1643
  let c16_i32_1644 : BitVec 32 := 16#32
  let v1356 : BitVec 32 := Scalar.remsi v1355 c16_i32_1644
  let c1_i32_1650 : BitVec 32 := 1#32
  let v1358 : BitVec 32 := Scalar.muli v1356 c1_i32_1650
  let v1359 : BitVec 32 := Scalar.addi c0_i32_1651 v1358
  v1359.toNat
def k0_dev76 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1653 : BitVec 32 := 15#32
  let v1365 : BitVec 32 := Scalar.addi v2 c15_i32_1653
  let c16_i32_1654 : BitVec 32 := 16#32
  let v1366 : BitVec 32 := Scalar.remsi v1365 c16_i32_1654
  let c1_i32_1660 : BitVec 32 := 1#32
  let v1368 : BitVec 32 := Scalar.muli v1366 c1_i32_1660
  let v1369 : BitVec 32 := Scalar.addi c0_i32_1661 v1368
  v1369.toNat
def k0_dev77 (d0 : Dev nD) : Nat :=
  let c0_i32_1671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1663 : BitVec 32 := 0#32
  let v1375 : BitVec 32 := Scalar.addi v2 c0_i32_1663
  let c16_i32_1664 : BitVec 32 := 16#32
  let v1376 : BitVec 32 := Scalar.remsi v1375 c16_i32_1664
  let c1_i32_1670 : BitVec 32 := 1#32
  let v1378 : BitVec 32 := Scalar.muli v1376 c1_i32_1670
  let v1379 : BitVec 32 := Scalar.addi c0_i32_1671 v1378
  v1379.toNat
def k0_dev78 (d0 : Dev nD) : Nat :=
  let c0_i32_2076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2066 : BitVec 32 := 1#32
  let v1634 : BitVec 32 := Scalar.addi v2 c1_i32_2066
  let c16_i32_2067 : BitVec 32 := 16#32
  let v1635 : BitVec 32 := Scalar.remsi v1634 c16_i32_2067
  let c1_i32_2075 : BitVec 32 := 1#32
  let v1637 : BitVec 32 := Scalar.muli v1635 c1_i32_2075
  let v1638 : BitVec 32 := Scalar.addi c0_i32_2076 v1637
  v1638.toNat
def k0_dev79 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2080 : BitVec 32 := 2#32
  let v1646 : BitVec 32 := Scalar.addi v2 c2_i32_2080
  let c16_i32_2081 : BitVec 32 := 16#32
  let v1647 : BitVec 32 := Scalar.remsi v1646 c16_i32_2081
  let c1_i32_2089 : BitVec 32 := 1#32
  let v1649 : BitVec 32 := Scalar.muli v1647 c1_i32_2089
  let v1650 : BitVec 32 := Scalar.addi c0_i32_2090 v1649
  v1650.toNat
def k0_dev80 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2094 : BitVec 32 := 3#32
  let v1658 : BitVec 32 := Scalar.addi v2 c3_i32_2094
  let c16_i32_2095 : BitVec 32 := 16#32
  let v1659 : BitVec 32 := Scalar.remsi v1658 c16_i32_2095
  let c1_i32_2103 : BitVec 32 := 1#32
  let v1661 : BitVec 32 := Scalar.muli v1659 c1_i32_2103
  let v1662 : BitVec 32 := Scalar.addi c0_i32_2104 v1661
  v1662.toNat
def k0_dev81 (d0 : Dev nD) : Nat :=
  let c0_i32_2118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2108 : BitVec 32 := 4#32
  let v1670 : BitVec 32 := Scalar.addi v2 c4_i32_2108
  let c16_i32_2109 : BitVec 32 := 16#32
  let v1671 : BitVec 32 := Scalar.remsi v1670 c16_i32_2109
  let c1_i32_2117 : BitVec 32 := 1#32
  let v1673 : BitVec 32 := Scalar.muli v1671 c1_i32_2117
  let v1674 : BitVec 32 := Scalar.addi c0_i32_2118 v1673
  v1674.toNat
def k0_dev82 (d0 : Dev nD) : Nat :=
  let c0_i32_2132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2122 : BitVec 32 := 5#32
  let v1682 : BitVec 32 := Scalar.addi v2 c5_i32_2122
  let c16_i32_2123 : BitVec 32 := 16#32
  let v1683 : BitVec 32 := Scalar.remsi v1682 c16_i32_2123
  let c1_i32_2131 : BitVec 32 := 1#32
  let v1685 : BitVec 32 := Scalar.muli v1683 c1_i32_2131
  let v1686 : BitVec 32 := Scalar.addi c0_i32_2132 v1685
  v1686.toNat
def k0_dev83 (d0 : Dev nD) : Nat :=
  let c0_i32_2146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2136 : BitVec 32 := 6#32
  let v1694 : BitVec 32 := Scalar.addi v2 c6_i32_2136
  let c16_i32_2137 : BitVec 32 := 16#32
  let v1695 : BitVec 32 := Scalar.remsi v1694 c16_i32_2137
  let c1_i32_2145 : BitVec 32 := 1#32
  let v1697 : BitVec 32 := Scalar.muli v1695 c1_i32_2145
  let v1698 : BitVec 32 := Scalar.addi c0_i32_2146 v1697
  v1698.toNat
def k0_dev84 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2150 : BitVec 32 := 7#32
  let v1706 : BitVec 32 := Scalar.addi v2 c7_i32_2150
  let c16_i32_2151 : BitVec 32 := 16#32
  let v1707 : BitVec 32 := Scalar.remsi v1706 c16_i32_2151
  let c1_i32_2159 : BitVec 32 := 1#32
  let v1709 : BitVec 32 := Scalar.muli v1707 c1_i32_2159
  let v1710 : BitVec 32 := Scalar.addi c0_i32_2160 v1709
  v1710.toNat
def k0_dev85 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2164 : BitVec 32 := 8#32
  let v1718 : BitVec 32 := Scalar.addi v2 c8_i32_2164
  let c16_i32_2165 : BitVec 32 := 16#32
  let v1719 : BitVec 32 := Scalar.remsi v1718 c16_i32_2165
  let c1_i32_2173 : BitVec 32 := 1#32
  let v1721 : BitVec 32 := Scalar.muli v1719 c1_i32_2173
  let v1722 : BitVec 32 := Scalar.addi c0_i32_2174 v1721
  v1722.toNat
def k0_dev86 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2178 : BitVec 32 := 9#32
  let v1730 : BitVec 32 := Scalar.addi v2 c9_i32_2178
  let c16_i32_2179 : BitVec 32 := 16#32
  let v1731 : BitVec 32 := Scalar.remsi v1730 c16_i32_2179
  let c1_i32_2187 : BitVec 32 := 1#32
  let v1733 : BitVec 32 := Scalar.muli v1731 c1_i32_2187
  let v1734 : BitVec 32 := Scalar.addi c0_i32_2188 v1733
  v1734.toNat
def k0_dev87 (d0 : Dev nD) : Nat :=
  let c0_i32_2202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2192 : BitVec 32 := 10#32
  let v1742 : BitVec 32 := Scalar.addi v2 c10_i32_2192
  let c16_i32_2193 : BitVec 32 := 16#32
  let v1743 : BitVec 32 := Scalar.remsi v1742 c16_i32_2193
  let c1_i32_2201 : BitVec 32 := 1#32
  let v1745 : BitVec 32 := Scalar.muli v1743 c1_i32_2201
  let v1746 : BitVec 32 := Scalar.addi c0_i32_2202 v1745
  v1746.toNat
def k0_dev88 (d0 : Dev nD) : Nat :=
  let c0_i32_2216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2206 : BitVec 32 := 11#32
  let v1754 : BitVec 32 := Scalar.addi v2 c11_i32_2206
  let c16_i32_2207 : BitVec 32 := 16#32
  let v1755 : BitVec 32 := Scalar.remsi v1754 c16_i32_2207
  let c1_i32_2215 : BitVec 32 := 1#32
  let v1757 : BitVec 32 := Scalar.muli v1755 c1_i32_2215
  let v1758 : BitVec 32 := Scalar.addi c0_i32_2216 v1757
  v1758.toNat
def k0_dev89 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2220 : BitVec 32 := 12#32
  let v1766 : BitVec 32 := Scalar.addi v2 c12_i32_2220
  let c16_i32_2221 : BitVec 32 := 16#32
  let v1767 : BitVec 32 := Scalar.remsi v1766 c16_i32_2221
  let c1_i32_2229 : BitVec 32 := 1#32
  let v1769 : BitVec 32 := Scalar.muli v1767 c1_i32_2229
  let v1770 : BitVec 32 := Scalar.addi c0_i32_2230 v1769
  v1770.toNat
def k0_dev90 (d0 : Dev nD) : Nat :=
  let c0_i32_2244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2234 : BitVec 32 := 13#32
  let v1778 : BitVec 32 := Scalar.addi v2 c13_i32_2234
  let c16_i32_2235 : BitVec 32 := 16#32
  let v1779 : BitVec 32 := Scalar.remsi v1778 c16_i32_2235
  let c1_i32_2243 : BitVec 32 := 1#32
  let v1781 : BitVec 32 := Scalar.muli v1779 c1_i32_2243
  let v1782 : BitVec 32 := Scalar.addi c0_i32_2244 v1781
  v1782.toNat
def k0_dev91 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2248 : BitVec 32 := 14#32
  let v1790 : BitVec 32 := Scalar.addi v2 c14_i32_2248
  let c16_i32_2249 : BitVec 32 := 16#32
  let v1791 : BitVec 32 := Scalar.remsi v1790 c16_i32_2249
  let c1_i32_2257 : BitVec 32 := 1#32
  let v1793 : BitVec 32 := Scalar.muli v1791 c1_i32_2257
  let v1794 : BitVec 32 := Scalar.addi c0_i32_2258 v1793
  v1794.toNat
def k0_dev92 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2262 : BitVec 32 := 15#32
  let v1802 : BitVec 32 := Scalar.addi v2 c15_i32_2262
  let c16_i32_2263 : BitVec 32 := 16#32
  let v1803 : BitVec 32 := Scalar.remsi v1802 c16_i32_2263
  let c1_i32_2271 : BitVec 32 := 1#32
  let v1805 : BitVec 32 := Scalar.muli v1803 c1_i32_2271
  let v1806 : BitVec 32 := Scalar.addi c0_i32_2272 v1805
  v1806.toNat
def k0_dev93 (d0 : Dev nD) : Nat :=
  let c0_i32_2516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2508 : BitVec 32 := 1#32
  let v1987 : BitVec 32 := Scalar.addi v2 c1_i32_2508
  let c16_i32_2509 : BitVec 32 := 16#32
  let v1988 : BitVec 32 := Scalar.remsi v1987 c16_i32_2509
  let c1_i32_2515 : BitVec 32 := 1#32
  let v1990 : BitVec 32 := Scalar.muli v1988 c1_i32_2515
  let v1991 : BitVec 32 := Scalar.addi c0_i32_2516 v1990
  v1991.toNat
def k0_dev94 (d0 : Dev nD) : Nat :=
  let c0_i32_2526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2518 : BitVec 32 := 2#32
  let v1997 : BitVec 32 := Scalar.addi v2 c2_i32_2518
  let c16_i32_2519 : BitVec 32 := 16#32
  let v1998 : BitVec 32 := Scalar.remsi v1997 c16_i32_2519
  let c1_i32_2525 : BitVec 32 := 1#32
  let v2000 : BitVec 32 := Scalar.muli v1998 c1_i32_2525
  let v2001 : BitVec 32 := Scalar.addi c0_i32_2526 v2000
  v2001.toNat
def k0_dev95 (d0 : Dev nD) : Nat :=
  let c0_i32_2536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2528 : BitVec 32 := 3#32
  let v2007 : BitVec 32 := Scalar.addi v2 c3_i32_2528
  let c16_i32_2529 : BitVec 32 := 16#32
  let v2008 : BitVec 32 := Scalar.remsi v2007 c16_i32_2529
  let c1_i32_2535 : BitVec 32 := 1#32
  let v2010 : BitVec 32 := Scalar.muli v2008 c1_i32_2535
  let v2011 : BitVec 32 := Scalar.addi c0_i32_2536 v2010
  v2011.toNat
def k0_dev96 (d0 : Dev nD) : Nat :=
  let c0_i32_2546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2538 : BitVec 32 := 4#32
  let v2017 : BitVec 32 := Scalar.addi v2 c4_i32_2538
  let c16_i32_2539 : BitVec 32 := 16#32
  let v2018 : BitVec 32 := Scalar.remsi v2017 c16_i32_2539
  let c1_i32_2545 : BitVec 32 := 1#32
  let v2020 : BitVec 32 := Scalar.muli v2018 c1_i32_2545
  let v2021 : BitVec 32 := Scalar.addi c0_i32_2546 v2020
  v2021.toNat
def k0_dev97 (d0 : Dev nD) : Nat :=
  let c0_i32_2556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2548 : BitVec 32 := 5#32
  let v2027 : BitVec 32 := Scalar.addi v2 c5_i32_2548
  let c16_i32_2549 : BitVec 32 := 16#32
  let v2028 : BitVec 32 := Scalar.remsi v2027 c16_i32_2549
  let c1_i32_2555 : BitVec 32 := 1#32
  let v2030 : BitVec 32 := Scalar.muli v2028 c1_i32_2555
  let v2031 : BitVec 32 := Scalar.addi c0_i32_2556 v2030
  v2031.toNat
def k0_dev98 (d0 : Dev nD) : Nat :=
  let c0_i32_2566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2558 : BitVec 32 := 6#32
  let v2037 : BitVec 32 := Scalar.addi v2 c6_i32_2558
  let c16_i32_2559 : BitVec 32 := 16#32
  let v2038 : BitVec 32 := Scalar.remsi v2037 c16_i32_2559
  let c1_i32_2565 : BitVec 32 := 1#32
  let v2040 : BitVec 32 := Scalar.muli v2038 c1_i32_2565
  let v2041 : BitVec 32 := Scalar.addi c0_i32_2566 v2040
  v2041.toNat
def k0_dev99 (d0 : Dev nD) : Nat :=
  let c0_i32_2576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2568 : BitVec 32 := 7#32
  let v2047 : BitVec 32 := Scalar.addi v2 c7_i32_2568
  let c16_i32_2569 : BitVec 32 := 16#32
  let v2048 : BitVec 32 := Scalar.remsi v2047 c16_i32_2569
  let c1_i32_2575 : BitVec 32 := 1#32
  let v2050 : BitVec 32 := Scalar.muli v2048 c1_i32_2575
  let v2051 : BitVec 32 := Scalar.addi c0_i32_2576 v2050
  v2051.toNat
def k0_dev100 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2578 : BitVec 32 := 8#32
  let v2057 : BitVec 32 := Scalar.addi v2 c8_i32_2578
  let c16_i32_2579 : BitVec 32 := 16#32
  let v2058 : BitVec 32 := Scalar.remsi v2057 c16_i32_2579
  let c1_i32_2585 : BitVec 32 := 1#32
  let v2060 : BitVec 32 := Scalar.muli v2058 c1_i32_2585
  let v2061 : BitVec 32 := Scalar.addi c0_i32_2586 v2060
  v2061.toNat
def k0_dev101 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2588 : BitVec 32 := 9#32
  let v2067 : BitVec 32 := Scalar.addi v2 c9_i32_2588
  let c16_i32_2589 : BitVec 32 := 16#32
  let v2068 : BitVec 32 := Scalar.remsi v2067 c16_i32_2589
  let c1_i32_2595 : BitVec 32 := 1#32
  let v2070 : BitVec 32 := Scalar.muli v2068 c1_i32_2595
  let v2071 : BitVec 32 := Scalar.addi c0_i32_2596 v2070
  v2071.toNat
def k0_dev102 (d0 : Dev nD) : Nat :=
  let c0_i32_2606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2598 : BitVec 32 := 10#32
  let v2077 : BitVec 32 := Scalar.addi v2 c10_i32_2598
  let c16_i32_2599 : BitVec 32 := 16#32
  let v2078 : BitVec 32 := Scalar.remsi v2077 c16_i32_2599
  let c1_i32_2605 : BitVec 32 := 1#32
  let v2080 : BitVec 32 := Scalar.muli v2078 c1_i32_2605
  let v2081 : BitVec 32 := Scalar.addi c0_i32_2606 v2080
  v2081.toNat
def k0_dev103 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2608 : BitVec 32 := 11#32
  let v2087 : BitVec 32 := Scalar.addi v2 c11_i32_2608
  let c16_i32_2609 : BitVec 32 := 16#32
  let v2088 : BitVec 32 := Scalar.remsi v2087 c16_i32_2609
  let c1_i32_2615 : BitVec 32 := 1#32
  let v2090 : BitVec 32 := Scalar.muli v2088 c1_i32_2615
  let v2091 : BitVec 32 := Scalar.addi c0_i32_2616 v2090
  v2091.toNat
def k0_dev104 (d0 : Dev nD) : Nat :=
  let c0_i32_2626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2618 : BitVec 32 := 12#32
  let v2097 : BitVec 32 := Scalar.addi v2 c12_i32_2618
  let c16_i32_2619 : BitVec 32 := 16#32
  let v2098 : BitVec 32 := Scalar.remsi v2097 c16_i32_2619
  let c1_i32_2625 : BitVec 32 := 1#32
  let v2100 : BitVec 32 := Scalar.muli v2098 c1_i32_2625
  let v2101 : BitVec 32 := Scalar.addi c0_i32_2626 v2100
  v2101.toNat
def k0_dev105 (d0 : Dev nD) : Nat :=
  let c0_i32_2636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2628 : BitVec 32 := 13#32
  let v2107 : BitVec 32 := Scalar.addi v2 c13_i32_2628
  let c16_i32_2629 : BitVec 32 := 16#32
  let v2108 : BitVec 32 := Scalar.remsi v2107 c16_i32_2629
  let c1_i32_2635 : BitVec 32 := 1#32
  let v2110 : BitVec 32 := Scalar.muli v2108 c1_i32_2635
  let v2111 : BitVec 32 := Scalar.addi c0_i32_2636 v2110
  v2111.toNat
def k0_dev106 (d0 : Dev nD) : Nat :=
  let c0_i32_2646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2638 : BitVec 32 := 14#32
  let v2117 : BitVec 32 := Scalar.addi v2 c14_i32_2638
  let c16_i32_2639 : BitVec 32 := 16#32
  let v2118 : BitVec 32 := Scalar.remsi v2117 c16_i32_2639
  let c1_i32_2645 : BitVec 32 := 1#32
  let v2120 : BitVec 32 := Scalar.muli v2118 c1_i32_2645
  let v2121 : BitVec 32 := Scalar.addi c0_i32_2646 v2120
  v2121.toNat
def k0_dev107 (d0 : Dev nD) : Nat :=
  let c0_i32_2656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2648 : BitVec 32 := 15#32
  let v2127 : BitVec 32 := Scalar.addi v2 c15_i32_2648
  let c16_i32_2649 : BitVec 32 := 16#32
  let v2128 : BitVec 32 := Scalar.remsi v2127 c16_i32_2649
  let c1_i32_2655 : BitVec 32 := 1#32
  let v2130 : BitVec 32 := Scalar.muli v2128 c1_i32_2655
  let v2131 : BitVec 32 := Scalar.addi c0_i32_2656 v2130
  v2131.toNat
def k0_dev108 (d0 : Dev nD) : Nat :=
  let c0_i32_2666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2658 : BitVec 32 := 0#32
  let v2137 : BitVec 32 := Scalar.addi v2 c0_i32_2658
  let c16_i32_2659 : BitVec 32 := 16#32
  let v2138 : BitVec 32 := Scalar.remsi v2137 c16_i32_2659
  let c1_i32_2665 : BitVec 32 := 1#32
  let v2140 : BitVec 32 := Scalar.muli v2138 c1_i32_2665
  let v2141 : BitVec 32 := Scalar.addi c0_i32_2666 v2140
  v2141.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x1024 : Shape := ⟨2, ![64, 1024]⟩
abbrev S1024x32768 : Shape := ⟨2, ![1024, 32768]⟩
abbrev S32768x1024 : Shape := ⟨2, ![32768, 1024]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x32768, .f32⟩
  | .hbm, ⟨2, _⟩ => ⟨S32768x1024, .f32⟩
  | .hbm, ⟨3, _⟩ => ⟨S1024x32768, .f32⟩
  | .hbm, ⟨4, _⟩ => ⟨S32768x1024, .f32⟩
  | .hbm, ⟨5, _⟩ => ⟨S1024x32768, .f32⟩
  | .hbm, ⟨6, _⟩ => ⟨S32768x1024, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x1024, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x1024, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Steps.lean ====
/- The kernel's body as loops: every stretch the printed body writes out per layer and per distance
   is one list loop here over the layer `k` and the distance `d`, and the two are the same program by
   unfolding. The proofs then treat each kind of operation once. -/
module

public import proofs.«01_k».proof.Proof.Gen.KernelIdeal.Skeleton

@[expose] public section

set_option synthInstance.maxSize 4096

noncomputable section

namespace Cert.KernelIdeal.Hand

open Cert.KernelIdeal Cert.KernelIdeal.Gen
open Idealize.ShloMosaic Idealize.SL.Sem

variable {F : FTy → Type} [FloatOps F]

/-- The programs of the kernel body. -/
abbrev P (F : FTy → Type) := Prog (TpuEff nD τ sig (Elt F) Λ₀ .tc) PUnit

/-! ## The buffers -/

abbrev mX : Memref sig .tc .vmem S64x1024 .f32 := Memref.whole cc0_stg0_0
abbrev mOut : Memref sig .tc .vmem S64x1024 .f32 := Memref.whole cc0_stg7_0
abbrev mPart : Memref sig .tc .vmem S64x1024 .f32 := Memref.whole cc0_scratch0
abbrev mPbf : Memref sig .tc .vmem S64x1024 .bf16 := Memref.whole cc0_scratch1
abbrev mOwn : Memref sig .tc .vmem S4x1024 .f32 := Memref.whole cc0_scratch2
abbrev mRed : Memref sig .tc .vmem S4x1024 .bf16 := Memref.whole cc0_scratch3
abbrev mXg : Memref sig .tc .vmem S64x1024 .bf16 := Memref.whole cc0_scratch4
abbrev mRs : Memref sig .tc .vmem S3x16x4x1024 .bf16 := Memref.whole cc0_scratch5

/-! ## The semaphores, by layer and distance -/

/-- The transfer semaphore of kind `t`, layer `k`, distance `d`: kinds `0 … 3` are the reduce-scatter's send and
    receive and the all-gather's send and receive. -/
def qOf (t : Fin 4) (k : Fin 3) (d : Fin 16) : DmaSem sig :=
  (⟨8 + (48 * t.val + (16 * k.val + d.val)), by show _ < 201; omega⟩ : Fin 201)
abbrev qRsS (k : Fin 3) (d : Fin 16) : DmaSem sig := qOf 0 k d
abbrev qRsR (k : Fin 3) (d : Fin 16) : DmaSem sig := qOf 1 k d
abbrev qAgS (k : Fin 3) (d : Fin 16) : DmaSem sig := qOf 2 k d
abbrev qAgR (k : Fin 3) (d : Fin 16) : DmaSem sig := qOf 3 k d
/-- The semaphore of the local copy. -/
def qLoc : DmaSem sig := (⟨200, by decide⟩ : Fin 201)
/-- The barrier semaphore. -/
def qBar : Sem sig := (SemArray.scalar (sig.barrier 0 rfl) : Sems sig S_).sem

/-! ## Peers and slices -/

/-- The device at distance `w` as the kernel's words compute it. -/
def devN (d0 : Dev nD) (w : BitVec 32) : Nat :=
  (Scalar.addi 0#32 (Scalar.muli (Scalar.remsi (Scalar.addi (Scalar.remsi (Scalar.divsi (Dev.word d0) 1#32) 16#32) w) 16#32) 1#32)).toNat

theorem devN_eq : ∀ (d0 : Dev nD) (d : Fin 16), devN d0 (BitVec.ofNat 32 d.val) = (d0.val + d.val) % 16 := by
  decide +kernel

theorem devN_lt (d0 : Dev nD) (d : Fin 16) : devN d0 (BitVec.ofNat 32 d.val) < nD := by
  rw [devN_eq]; exact Nat.mod_lt _ (by decide)

/-- The device at distance `d` past `d0` around the ring. -/
def devW (d0 : Dev nD) (d : Fin 16) : Dev nD := ⟨devN d0 (BitVec.ofNat 32 d.val), devN_lt d0 d⟩

theorem slot_inb (k : Fin 3) (d : Fin 16) :
    ∀ a, (![k.val, d.val, 0, 0] : Fin 4 → Nat) a + S1x1x4x1024.size a ≤ S3x16x4x1024.size a := by
  revert k d; decide +kernel

theorem slot_words (k : Fin 3) (d : Fin 16) :
    (Rect.unit (s := S3x16x4x1024) ![k.val, d.val, 0, 0] S1x1x4x1024.size (slot_inb k d)).WholeWords
      (EltTy.packing .bf16) := by
  revert k d; decide +kernel

/-- The receive slot of layer `k` for the device at distance `d` behind. -/
abbrev slotM (k : Fin 3) (d : Fin 16) : Memref sig .tc .vmem S4x1024 .bf16 :=
  (mRs.slice (Rect.unit (s := S3x16x4x1024) ![k.val, d.val, 0, 0] S1x1x4x1024.size (slot_inb k d)) (fun _ => rfl)).squeeze
    S4x1024 squeezes_S1x1x4x1024_S4x1024

/-- The rows of the bf16 partial that the device at distance `r + 1` owns, as the kernel slices them. -/
abbrev sendM (d0 : Dev nD) (r : Fin 15) : Memref sig .tc .vmem S4x1024 .bf16 :=
  mPbf.slice (Rect.unit (s := S64x1024) (k0_off1 d0 (BitVec.ofNat 32 (1 + r.val))) S4x1024.size (k0_off1_inb d0 r)) (fun _ => rfl)

/-- A device's own rows of the f32 partial. -/
abbrev ownM (d0 : Dev nD) : Memref sig .tc .vmem S4x1024 .f32 :=
  mPart.slice (Rect.unit (s := S64x1024) (k0_off2 d0) S4x1024.size (k0_off2_inb d0)) (fun _ => rfl)

/-- A device's own rows of the gathered buffer. -/
abbrev gatM (d0 : Dev nD) : Memref sig .tc .vmem S4x1024 .bf16 :=
  mXg.slice (Rect.unit (s := S64x1024) (k0_off2 d0) S4x1024.size (k0_off2_inb d0)) (fun _ => rfl)

/-- The distance `r + 1`. -/
abbrev up (r : Fin 15) : Fin 16 := r.succ

/-! ## The operations -/

variable (F)

def opSignal (d0 : Dev nD) (r : Fin 15) (k : P F) : P F :=
  (semSignalWord (devW d0 (up r)) qBar 1#32 : P F).bind fun _ => k

def opBarrier (k : P F) : P F := (semWaitWord qBar 15#32 : P F).bind fun _ => k

def opRsSend (d0 : Dev nD) (l : Fin 3) (r : Fin 15) (k : P F) : P F :=
  .op (.enqueueDma (sendM d0 r) (.remote (Dev.tc (devW d0 (up r))) (slotM l (up r)) (.dma (qRsS l (up r)))) (.dma (qRsR l (up r)))
    ((Memref.isWhole_whole cc0_scratch1).wordExact_slice rfl _ (k0_off1_wordsbf16 d0 r))
    (((Memref.isWhole_whole cc0_scratch5).wordExact_slice rfl _ (slot_words l (up r))).reshape _ _)
    ⟨⟨rfl, Or.inl rfl⟩, trivial⟩) fun _ => k

def opRsRecv (d0 : Dev nD) (l : Fin 3) (r : Fin 15) (k : P F) : P F :=
  .op (.waitDma2 (qRsR l (up r)) (sendM d0 r) (slotM l (up r))
    ((Memref.isWhole_whole cc0_scratch1).wordExact_slice rfl _ (k0_off1_wordsbf16 d0 r))
    (((Memref.isWhole_whole cc0_scratch5).wordExact_slice rfl _ (slot_words l (up r))).reshape _ _)) fun _ => k

def opRsDone (d0 : Dev nD) (l : Fin 3) (r : Fin 15) (k : P F) : P F :=
  .op (.waitDma2 (qRsS l (up r)) (slotM l (up r)) (sendM d0 r)
    (((Memref.isWhole_whole cc0_scratch5).wordExact_slice rfl _ (slot_words l (up r))).reshape _ _)
    ((Memref.isWhole_whole cc0_scratch1).wordExact_slice rfl _ (k0_off1_wordsbf16 d0 r))) fun _ => k

def opAgSend (d0 : Dev nD) (l : Fin 3) (d : Fin 16) (k : P F) : P F :=
  .op (.enqueueDma mRed (.remote (Dev.tc (devW d0 d)) (gatM d0) (.dma (qAgS l d))) (.dma (qAgR l d))
    (Memref.isWhole_whole cc0_scratch3).wordExact
    ((Memref.isWhole_whole cc0_scratch4).wordExact_slice rfl _ (k0_off2_wordsbf16 d0)) ⟨⟨rfl, Or.inl rfl⟩, trivial⟩) fun _ => k

def opAgRecv (d0 : Dev nD) (l : Fin 3) (d : Fin 16) (k : P F) : P F :=
  .op (.waitDma2 (qAgR l d) mRed (gatM d0) (Memref.isWhole_whole cc0_scratch3).wordExact
    ((Memref.isWhole_whole cc0_scratch4).wordExact_slice rfl _ (k0_off2_wordsbf16 d0))) fun _ => k

def opAgDone (d0 : Dev nD) (l : Fin 3) (d : Fin 16) (k : P F) : P F :=
  .op (.waitDma2 (qAgS l d) (gatM d0) mRed
    ((Memref.isWhole_whole cc0_scratch4).wordExact_slice rfl _ (k0_off2_wordsbf16 d0))
    (Memref.isWhole_whole cc0_scratch3).wordExact) fun _ => k

def opCopy (d0 : Dev nD) (k : P F) : P F :=
  .op (.enqueueDma (ownM d0) (.here mOwn) (.dma qLoc) (View.wordExact_bits rfl)
    (Memref.isWhole_whole cc0_scratch2).wordExact ⟨Or.inl rfl, trivial⟩) fun _ => k

def opCopied (d0 : Dev nD) (k : P F) : P F :=
  .op (.waitDma2 qLoc (ownM d0) mOwn (View.wordExact_bits rfl) (Memref.isWhole_whole cc0_scratch2).wordExact) fun _ => k

variable {F}

/-- Load a whole 64×1024 buffer. -/
def ldS {e : EltTy} (M : Memref sig .tc .vmem S64x1024 e) (k : Vec F S64x1024 e → P F) : P F :=
  .op (.load M (Rect.unit (s := S64x1024) ![0, 0] S64x1024.size inb_S64x1024_S64x1024_0_0).toLoadRect
    (View.loadsAt_vmem h_S64x1024)) k

/-- Load a whole 4×1024 buffer. -/
def ldR {e : EltTy} (M : Memref sig .tc .vmem S4x1024 e) (k : Vec F S4x1024 e → P F) : P F :=
  .op (.load M (Rect.unit (s := S4x1024) ![0, 0] S4x1024.size inb_S4x1024_S4x1024_0_0).toLoadRect
    (View.loadsAt_vmem h_S4x1024)) k

theorem win_inb (j : Fin 4) :
    ∀ a, (![0, 512 * j.val] : Fin 2 → Nat) a + S1024x512.size a ≤ S1024x2048.size a := by
  revert j; decide +kernel

theorem wout_inb (j : Fin 4) :
    ∀ a, (![512 * j.val, 0] : Fin 2 → Nat) a + S512x1024.size a ≤ S2048x1024.size a := by
  revert j; decide +kernel

/-- Load the `j`-th block of columns of a first weight. -/
def ldIn (M : Memref sig .tc .vmem S1024x2048 .f32) (j : Fin 4) (k : Vec F S1024x512 .f32 → P F) : P F :=
  .op (.load M (Rect.unit (s := S1024x2048) ![0, 512 * j.val] S1024x512.size (win_inb j)).toLoadRect
    (View.loadsAt_vmem h_S1024x512)) k

/-- Load the `j`-th block of rows of a second weight. -/
def ldOut (M : Memref sig .tc .vmem S2048x1024 .f32) (j : Fin 4) (k : Vec F S512x1024 .f32 → P F) : P F :=
  .op (.load M (Rect.unit (s := S2048x1024) ![512 * j.val, 0] S512x1024.size (wout_inb j)).toLoadRect
    (View.loadsAt_vmem h_S512x1024)) k

/-- Load the receive slot of layer `l`, distance `d`. -/
def ldSlot (l : Fin 3) (d : Fin 16) (k : Vec F S1x1x4x1024 .bf16 → P F) : P F :=
  .op (.load mRs (Rect.unit (s := S3x16x4x1024) ![l.val, d.val, 0, 0] S1x1x4x1024.size (slot_inb l d)).toLoadRect
    (View.loadsAt_vmem h_S1x1x4x1024)) k

/-- Store a whole 64×1024 f32 buffer. -/
def stS (M : Memref sig .tc .vmem S64x1024 .f32) (v : Vec F S64x1024 .f32) (k : P F) : P F :=
  .op (.store M (Rect.unit (s := S64x1024) ![0, 0] S64x1024.size inb_S64x1024_S64x1024_0_0) v Finset.univ
    (View.stores_vmem_bits_univ h_S64x1024 rfl) (.inl rfl)) fun _ => k

/-- Store the whole bf16 partial. -/
def stPbf (v : Vec F S64x1024 .bf16) (k : P F) : P F :=
  .op (.store mPbf (Rect.unit (s := S64x1024) ![0, 0] S64x1024.size inb_S64x1024_S64x1024_0_0) v Finset.univ
    (View.stores_vmem h_S64x1024 ((Memref.isWhole_whole cc0_scratch1).storeExact_slice rfl _ packedbf16_S64x1024_S64x1024_0_0)
      (fun _ => rfl)) (.inl rfl)) fun _ => k

/-- Store the whole reduced block. -/
def stRed (v : Vec F S4x1024 .bf16) (k : P F) : P F :=
  .op (.store mRed (Rect.unit (s := S4x1024) ![0, 0] S4x1024.size inb_S4x1024_S4x1024_0_0) v Finset.univ
    (View.stores_vmem h_S4x1024 ((Memref.isWhole_whole cc0_scratch3).storeExact_slice rfl _ packedbf16_S4x1024_S4x1024_0_0)
      (fun _ => rfl)) (.inl rfl)) fun _ => k

/-! ## The values -/

/-- One block's contribution: the hidden block through the rectifier and the second weight. -/
def blockV (x : FVec F S64x1024 .f32) (w : Vec F S1024x512 .f32) (u : Vec F S512x1024 .f32) : FVec F S64x1024 .f32 :=
  matmul dot_S64x512_S512x1024_S64x1024_1_0_0_1_n_n none
    (maximumf (matmul dot_S64x1024_S1024x512_S64x512_1_0_0_1_n_n none x (shapeCast S1024x512 w shapeCasts_S1024x512_S1024x512)
      (constant S64x512 .f32 0x00000000#32)) (broadcast S64x512 (Scalar.ofBits .f32 0x00000000#32)))
    (shapeCast S512x1024 u shapeCasts_S512x1024_S512x1024) (constant S64x1024 .f32 0x00000000#32)

/-- The partial product over four blocks. -/
def partV (x : FVec F S64x1024 .f32) (w : Fin 4 → Vec F S1024x512 .f32) (u : Fin 4 → Vec F S512x1024 .f32) : FVec F S64x1024 .f32 :=
  addf (addf (addf (addf (broadcast S64x1024 (Scalar.ofBits .f32 0x00000000#32)) (blockV x (w 0) (u 0)))
    (blockV x (w 1) (u 1))) (blockV x (w 2) (u 2))) (blockV x (w 3) (u 3))

/-- One received slot added to the accumulator. -/
def accV (a : FVec F S4x1024 .f32) (v : Vec F S1x1x4x1024 .bf16) : FVec F S4x1024 .f32 :=
  addf a (extf .f32 (shapeCast S4x1024 v shapeCasts_S1x1x4x1024_S4x1024) bitsLt_bf16_f32)

/-! ## The loops -/

/-- An operation per element of a list, then the rest. -/
def loopP {α : Type} (op : α → P F → P F) : List α → P F → P F
  | [], k => k
  | a :: l, k => op a (loopP op l k)

/-- The receive loop: wait for a slot, load it, add it. -/
def recvP (d0 : Dev nD) (l : Fin 3) : List (Fin 15) → FVec F S4x1024 .f32 → (FVec F S4x1024 .f32 → P F) → P F
  | [], a, k => k a
  | r :: rs, a, k => opRsRecv F d0 l r (ldSlot l (up r) fun v => recvP d0 l rs (accV a v) k)

/-- The distances `1 … 15`. -/
def rs15 : List (Fin 15) := [0, 1, 2, 3, 4, 5, 6, 7, 8, 9, 10, 11, 12, 13, 14]
/-- The distances `0 … 15`. -/
def rs16 : List (Fin 16) := [0, 1, 2, 3, 4, 5, 6, 7, 8, 9, 10, 11, 12, 13, 14, 15]
/-- The order of the all-gather's sends: the own copy last. -/
def rs16' : List (Fin 16) := [1, 2, 3, 4, 5, 6, 7, 8, 9, 10, 11, 12, 13, 14, 15, 0]

/-- Load the weights' blocks and store the partial. -/
def computeP (x : FVec F S64x1024 .f32) (mi : Memref sig .tc .vmem S1024x2048 .f32) (mo : Memref sig .tc .vmem S2048x1024 .f32)
    (k : P F) : P F :=
  ldIn mi 0 fun w0 => ldOut mo 0 fun u0 => ldIn mi 1 fun w1 => ldOut mo 1 fun u1 =>
  ldIn mi 2 fun w2 => ldOut mo 2 fun u2 => ldIn mi 3 fun w3 => ldOut mo 3 fun u3 =>
  ldS mPart fun _ => stS mPart (shapeCast S64x1024 (partV x ![w0, w1, w2, w3] ![u0, u1, u2, u3]) shapeCasts_S64x1024_S64x1024) <|
  ldS mPbf fun _ => stPbf (shapeCast S64x1024 (truncf .bf16 (partV x ![w0, w1, w2, w3] ![u0, u1, u2, u3]) bitsLt_bf16_f32)
    shapeCasts_S64x1024_S64x1024) k

/-- The exchange of one layer up to the gathered buffer. -/
def exchP (d0 : Dev nD) (l : Fin 3) (k : P F) : P F :=
  loopP (opRsSend F d0 l) rs15 <|
  opCopy F d0 <| opCopied F d0 <| ldR mOwn fun a =>
  recvP d0 l rs15 a fun a' => ldR mRed fun _ =>
  stRed (shapeCast S4x1024 (truncf .bf16 a' bitsLt_bf16_f32) shapeCasts_S4x1024_S4x1024) <|
  loopP (opAgSend F d0 l) rs16' <| loopP (opAgRecv F d0 l) rs16 k

/-- The send waits of one layer. -/
def doneP (d0 : Dev nD) (l : Fin 3) (k : P F) : P F :=
  loopP (opRsDone F d0 l) rs15 <| loopP (opAgDone F d0 l) rs16 k

/-- The kernel's body. -/
def bodyP : P F :=
  .op .deviceId fun d0 => loopP (opSignal F d0) rs15 <|
  ldS mX fun x => computeP (shapeCast S64x1024 x shapeCasts_S64x1024_S64x1024) (Memref.whole cc0_stg1_0) (Memref.whole cc0_stg2_0) <|
  opBarrier F <| exchP d0 0 <| doneP d0 0 <|
  ldS mXg fun x1 => computeP (extf .f32 x1 bitsLt_bf16_f32) (Memref.whole cc0_stg3_0) (Memref.whole cc0_stg4_0) <|
  exchP d0 1 <| doneP d0 1 <|
  ldS mXg fun x2 => computeP (extf .f32 x2 bitsLt_bf16_f32) (Memref.whole cc0_stg5_0) (Memref.whole cc0_stg6_0) <|
  exchP d0 2 <| ldS mXg fun x3 => ldS mOut fun _ => stS mOut (extf .f32 x3 bitsLt_bf16_f32) <|
  doneP d0 2 <| .ret ⟨⟩

set_option maxRecDepth 65536 in
/-- The printed body over its buffers is the body as loops. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 = bodyP := by
  rw [cc0_body_eq_skeleton]
  with_unfolding_all rfl

end Cert.KernelIdeal.Hand
-- ==== Proof.KernelIdeal.Common.lean ====
/- What the buffers hold layer by layer, the schedule of the semaphores, what a device owes at launch, and the
   levels that order the waits. -/
module

public import proofs.«01_k».proof.Proof.KernelIdeal.Steps
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.SparseCore.Stream
public import Idealize.ShloMosaic.Lib.Tactic

@[expose] public section

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch. -/
def s₀ : MemSt nD τ sig (Elt F) := ⟨m, fun _ => 0, ρ⟩

/-! ## Around the ring -/

/-- The device `d` ahead. -/
def fwd (c : Dev nD) (d : Fin 16) : Dev nD := ⟨(c.val + d.val) % 16, Nat.mod_lt _ (by decide)⟩
/-- The device `d` behind. -/
def bwd (c : Dev nD) (d : Fin 16) : Dev nD := ⟨(c.val + (16 - d.val)) % 16, Nat.mod_lt _ (by decide)⟩
/-- The opposite distance. -/
def opp (d : Fin 16) : Fin 16 := ⟨(16 - d.val) % 16, Nat.mod_lt _ (by decide)⟩

theorem bwd_fwd (c : Dev nD) (d : Fin 16) : bwd (fwd c d) d = c := by
  apply Fin.ext; have := c.isLt; change c.val < 16 at this; simp only [bwd, fwd]; omega
theorem fwd_bwd (c : Dev nD) (d : Fin 16) : fwd (bwd c d) d = c := by
  apply Fin.ext; have := c.isLt; change c.val < 16 at this; simp only [bwd, fwd]; omega
theorem fwd_opp (c : Dev nD) (d : Fin 16) : fwd c (opp d) = bwd c d := by
  apply Fin.ext; have := c.isLt; change c.val < 16 at this; simp only [bwd, fwd, opp]; omega
theorem bwd_opp (c : Dev nD) (d : Fin 16) : bwd c (opp d) = fwd c d := by
  apply Fin.ext; have := c.isLt; change c.val < 16 at this; simp only [bwd, fwd, opp]; omega
theorem opp_opp (d : Fin 16) : opp (opp d) = d := by apply Fin.ext; simp only [opp]; omega
theorem fwd_zero (c : Dev nD) : fwd c 0 = c := by
  apply Fin.ext; have := c.isLt; change c.val < 16 at this; simp only [fwd, Fin.val_zero]; omega
theorem bwd_zero (c : Dev nD) : bwd c 0 = c := by
  apply Fin.ext; have := c.isLt; change c.val < 16 at this; simp only [bwd, Fin.val_zero]; omega
theorem fwd_inj (d : Fin 16) : Function.Injective fun c => fwd c d := fun a b h => by
  have := congrArg (fun x => bwd x d) h; simpa only [bwd_fwd] using this

/-- The kernel's word computation of a peer is the ring step. -/
theorem devW_eq (c : Dev nD) (d : Fin 16) : devW c d = fwd c d := Fin.ext (devN_eq c d)

/-- The ring step as a permutation of the devices. -/
def ringE (d : Fin 16) : Dev nD ≃ Dev nD :=
  ⟨fun c => fwd c d, fun c => bwd c d, fun c => bwd_fwd c d, fun c => fwd_bwd c d⟩

/-! ## Row blocks -/

theorem row_inb (b : Fin 16) : ∀ a, (![4 * b.val, 0] : Fin 2 → Nat) a + S4x1024.size a ≤ S64x1024.size a := by
  revert b; decide +kernel

/-- The rows device `b` owns of a 64×1024 buffer. -/
abbrev rowR (b : Fin 16) : Rect S64x1024 := Rect.unit (s := S64x1024) ![4 * b.val, 0] S4x1024.size (row_inb b)
abbrev rowM {e : EltTy} (M : Memref sig .tc .vmem S64x1024 e) (b : Fin 16) : Memref sig .tc .vmem S4x1024 e :=
  M.slice (rowR b) (fun _ => rfl)

/-- Those rows of a value. -/
def rows {α : Type} (b : Fin 16) (X : S64x1024.Idx → α) : S4x1024.Idx → α := fun i => X ((rowR b).emb i)

theorem slice_at {e : EltTy} (M : Memref sig .tc .vmem S64x1024 e) (off : Fin 2 → Nat)
    (inb : ∀ a, off a + S4x1024.size a ≤ S64x1024.size a) (b : Fin 16) (h : off = ![4 * b.val, 0]) :
    M.slice (Rect.unit (s := S64x1024) off S4x1024.size inb) (fun _ => rfl) = rowM M b := by subst h; rfl

theorem sendM_eq (c : Dev nD) (r : Fin 15) : sendM c r = rowM mPbf (fwd c (up r)) :=
  slice_at _ _ _ _ ((k0_off1_eq c r).trans (by simp only [fwd, up, Fin.val_succ, Nat.add_assoc]))
theorem ownM_eq (c : Dev nD) : ownM c = rowM mPart c := slice_at _ _ _ _ (k0_off2_eq c)
theorem gatM_eq (c : Dev nD) : gatM c = rowM mXg c := slice_at _ _ _ _ (k0_off2_eq c)

/-! ## Contents -/

/-- The staged activations of a device. -/
def xs (c : Dev nD) : Vec F S64x1024 .f32 :=
  (win0_0.blk (0 : Fin 1)).view.read (Elt F) ((s₀ m ρ).mem ((c : Thread nD τ).loc main_arg0))

/-- The staged first weight of layer `k` of a device. -/
def wi (k : Fin 3) (c : Dev nD) : Vec F S1024x2048 .f32 := match k with
  | 0 => (win0_1.blk (0 : Fin 1)).view.read (Elt F) ((s₀ m ρ).mem ((c : Thread nD τ).loc main_arg1))
  | 1 => (win0_3.blk (0 : Fin 1)).view.read (Elt F) ((s₀ m ρ).mem ((c : Thread nD τ).loc main_arg3))
  | 2 => (win0_5.blk (0 : Fin 1)).view.read (Elt F) ((s₀ m ρ).mem ((c : Thread nD τ).loc main_arg5))

/-- The staged second weight of layer `k` of a device. -/
def wo (k : Fin 3) (c : Dev nD) : Vec F S2048x1024 .f32 := match k with
  | 0 => (win0_2.blk (0 : Fin 1)).view.read (Elt F) ((s₀ m ρ).mem ((c : Thread nD τ).loc main_arg2))
  | 1 => (win0_4.blk (0 : Fin 1)).view.read (Elt F) ((s₀ m ρ).mem ((c : Thread nD τ).loc main_arg4))
  | 2 => (win0_6.blk (0 : Fin 1)).view.read (Elt F) ((s₀ m ρ).mem ((c : Thread nD τ).loc main_arg6))

abbrev inR (j : Fin 4) : Rect S1024x2048 := Rect.unit (s := S1024x2048) ![0, 512 * j.val] S1024x512.size (win_inb j)
abbrev outR (j : Fin 4) : Rect S2048x1024 := Rect.unit (s := S2048x1024) ![512 * j.val, 0] S512x1024.size (wout_inb j)

/-- Block `j` of the columns of a first weight. -/
def inB (w : Vec F S1024x2048 .f32) (j : Fin 4) : Vec F S1024x512 .f32 := fun i => w ((inR j).emb i)
/-- Block `j` of the rows of a second weight. -/
def outB (w : Vec F S2048x1024 .f32) (j : Fin 4) : Vec F S512x1024 .f32 := fun i => w ((outR j).emb i)

/-- A device's partial product from its input. -/
def partL (x : FVec F S64x1024 .f32) (w : Vec F S1024x2048 .f32) (u : Vec F S2048x1024 .f32) : FVec F S64x1024 .f32 :=
  partV x ![inB w 0, inB w 1, inB w 2, inB w 3] ![outB u 0, outB u 1, outB u 2, outB u 3]

/-- One received piece added. -/
def accR (a : FVec F S4x1024 .f32) (v : FVec F S4x1024 .bf16) : FVec F S4x1024 .f32 := addf a (extf .f32 v bitsLt_bf16_f32)

/-- A device's rows reduced: its own, then each peer's as sent, nearest behind first. -/
def redL (p : Dev nD → FVec F S64x1024 .f32) (c : Dev nD) : FVec F S4x1024 .f32 :=
  rs15.foldl (fun a r => accR a (rows c (truncf .bf16 (p (bwd c (up r))) bitsLt_bf16_f32))) (rows c (p c))

/-- The owner of a row, and its place among the owner's rows. -/
def rowOwner (i : S64x1024.Idx) : Dev nD := ⟨(i 0).val / 4, by
  have := (i 0).isLt; change (i 0).val < 64 at this; show _ < 16; omega⟩
def rowPlace (i : S64x1024.Idx) : S4x1024.Idx :=
  fun a => match a with
    | ⟨0, _⟩ => ⟨(i 0).val % 4, Nat.mod_lt _ (by decide)⟩
    | ⟨1, _⟩ => ⟨(i 1).val, (i 1).isLt⟩

/-- The blocks of the sixteen devices stacked. -/
def stack {α : Type} (b : Dev nD → S4x1024.Idx → α) : S64x1024.Idx → α := fun i => b (rowOwner i) (rowPlace i)

/-- The input of layer `k` on a device, and after three layers the gathered result. -/
def xin : ℕ → Dev nD → FVec F S64x1024 .f32
  | 0, c => xs m ρ c
  | k + 1, _ =>
    extf .f32 (stack fun p => truncf .bf16
      (redL (fun q => partL (xin k q) (wi m ρ ⟨k % 3, Nat.mod_lt _ (by decide)⟩ q) (wo m ρ ⟨k % 3, Nat.mod_lt _ (by decide)⟩ q)) p)
      bitsLt_bf16_f32) bitsLt_bf16_f32

def partC (k : Fin 3) (c : Dev nD) : FVec F S64x1024 .f32 := partL (xin m ρ k.val c) (wi m ρ k c) (wo m ρ k c)
def pbfC (k : Fin 3) (c : Dev nD) : FVec F S64x1024 .bf16 := truncf .bf16 (partC m ρ k c) bitsLt_bf16_f32
def redC (k : Fin 3) (c : Dev nD) : FVec F S4x1024 .bf16 := truncf .bf16 (redL (partC m ρ k) c) bitsLt_bf16_f32
def xgC (k : Fin 3) : FVec F S64x1024 .bf16 := stack (redC m ρ k)

theorem xin_succ (k : Fin 3) (c : Dev nD) : xin m ρ (k.val + 1) c = extf .f32 (xgC m ρ k) bitsLt_bf16_f32 := by
  have h : (⟨k.val % 3, Nat.mod_lt _ (by decide)⟩ : Fin 3) = k := Fin.ext (Nat.mod_eq_of_lt k.isLt)
  rw [xin, h]; rfl

/-! ## The cells -/

/-- A device's own scoped semaphores: the local copy's, or a transfer's of a kind, layer and distance. -/
abbrev Ix : Type := Option (Fin 4 × Fin 3 × Fin 16)
/-- All its semaphores: the barrier's also. -/
abbrev Kd : Type := Option Ix

def osem : Ix → SemLoc sig
  | none => .dma qLoc
  | some x => .dma (qOf x.1 x.2.1 x.2.2)

def semOf : Kd → SemLoc sig
  | none => .reg qBar
  | some x => osem x

/-- Which of them a semaphore is. -/
def kdOf : SemLoc sig → Option Kd
  | .reg _ => some none
  | .dma q =>
    if q.val < 8 then none
    else if h : q.val < 200 then
      some (some (some (⟨(q.val - 8) / 48, by omega⟩, ⟨(q.val - 8) % 48 / 16, by omega⟩, ⟨(q.val - 8) % 16, by omega⟩)))
    else some (some none)

theorem kdOf_semOf (κ : Kd) : kdOf (semOf κ) = some κ := by
  rcases κ with _ | _ | ⟨t, k, d⟩
  · rfl
  · rfl
  · have h1 : (qOf t k d).val = 8 + (48 * t.val + (16 * k.val + d.val)) := rfl
    simp only [semOf, osem, kdOf, h1]
    rw [if_neg (by omega), dif_pos (by omega)]
    refine congrArg some (congrArg some (congrArg some (Prod.ext (Fin.ext ?_) (Prod.ext (Fin.ext ?_) (Fin.ext ?_))))) <;>
      simp only <;> omega

theorem semOf_injective : Function.Injective semOf := fun a b h => by
  have := congrArg kdOf h; rw [kdOf_semOf, kdOf_semOf] at this; exact Option.some.inj this

abbrev kcell (ck : Dev nD × Kd) : GSem nD τ sig := ((ck.1 : Thread nD τ), semOf ck.2)

theorem kcell_injective : Function.Injective kcell := fun a b h =>
  Prod.ext (congrArg (fun g : GSem nD τ sig => g.1.1) h) (semOf_injective (congrArg Prod.snd h))

abbrev kBar : Kd := none
abbrev kLoc : Kd := some none
abbrev kRsS (k : Fin 3) (d : Fin 16) : Kd := some (some (0, k, d))
abbrev kRsR (k : Fin 3) (d : Fin 16) : Kd := some (some (1, k, d))
abbrev kAgS (k : Fin 3) (d : Fin 16) : Kd := some (some (2, k, d))
abbrev kAgR (k : Fin 3) (d : Fin 16) : Kd := some (some (3, k, d))

/-! ## The schedule -/

def N : ℕ := (mRed : Memref sig .tc .vmem S4x1024 .bf16).view.dmaCredit
def NL : ℕ := (mOwn : Memref sig .tc .vmem S4x1024 .f32).view.dmaCredit
theorem credit_slot (k : Fin 3) (d : Fin 16) : (slotM k d).view.dmaCredit = N := rfl
theorem credit_row (M : Memref sig .tc .vmem S4x1024 .bf16) : M.view.dmaCredit = N := rfl
theorem N_pos : 0 < N := View.dmaCredit_pos _ (by decide)
theorem credit_own : (mOwn : Memref sig .tc .vmem S4x1024 .f32).view.dmaCredit = NL := rfl
theorem NL_pos : 0 < NL := View.dmaCredit_pos _ (by decide)
attribute [irreducible] N NL

def dutyK : Kd → ℕ → Finset (Fin 16)
  | none, r => if r = 0 then Finset.univ.erase 0 else ∅
  | some none, r => if r < 3 then {0} else ∅
  | some (some (t, _, d)), r => if r = 0 ∧ (2 ≤ t.val ∨ d ≠ 0) then {0} else ∅

def amtK : Kd → ℕ
  | none => 1
  | some none => NL
  | some (some _) => N

/-- Some contents of the rows of device `b` of a device's gathered buffer. -/
abbrev xgAny (c : Dev nD) (b : Fin 16) : sProp 𝕄 := iprop(∃ X, owns (c : Thread nD τ) (rowM mXg b) fullShare X)
/-- Some contents of a receive slot. -/
abbrev slotAny (c : Dev nD) (k : Fin 3) (d : Fin 16) : sProp 𝕄 := iprop(∃ X, owns (c : Thread nD τ) (slotM k d) fullShare X)
/-- Some contents of rows of the bf16 partial. -/
abbrev pbfAny (c : Dev nD) (b : Fin 16) : sProp 𝕄 := iprop(∃ X, owns (c : Thread nD τ) (rowM mPbf b) fullShare X)
/-- The share of the reduced block each of sixteen sends reads through. -/
abbrev redPiece (c : Dev nD) (d : Fin 16) (X : FVec F S4x1024 .bf16) : sProp 𝕄 :=
  (mRed : Memref sig .tc .vmem S4x1024 .bf16).view.loc (c : Thread nD τ)
    ↦[(mRed : Memref sig .tc .vmem S4x1024 .bf16).view.set]{pieceOf fullShare 16 (by decide) d} X

/-- What the local copy of layer `k` hands back: the copy, and the rows it read. -/
def locPay (c : Dev nD) (k : Fin 3) : sProp 𝕄 :=
  iprop(owns (c : Thread nD τ) mOwn fullShare (rows c (partC m ρ k c)) ∗ ∃ X, owns (c : Thread nD τ) (rowM mPart c) fullShare X)
instance locPay_storable (c : Dev nD) (k : Fin 3) : BI.Storable (upEmb : UEmb _ 𝕄) (locPay m ρ c k) := by unfold locPay; infer_instance

/-- What a unit of a cell hands its waiter. -/
def payK (c : Dev nD) : Kd → ℕ → Fin 16 → sProp 𝕄
  | none, _, d => iprop(slotAny (bwd c d) 0 (opp d) ∗ slotAny (bwd c d) 1 (opp d) ∗ slotAny (bwd c d) 2 (opp d))
  | some none, r, _ => locPay m ρ c ⟨r % 3, Nat.mod_lt _ (by decide)⟩
  | some (some (0, k, d)), _, _ => pbfAny c (fwd c d)
  | some (some (1, k, d)), _, _ =>
    iprop(owns (c : Thread nD τ) (slotM k d) fullShare (rows c (pbfC m ρ k (bwd c d))) ∗ xgAny (bwd c d) c)
  | some (some (2, k, d)), _, _ => redPiece c d (redC m ρ k c)
  | some (some (3, k, d)), _, _ => owns (c : Thread nD τ) (rowM mXg (bwd c d)) fullShare (redC m ρ k (bwd c d))

theorem duty_xfer (t : Fin 4) (k : Fin 3) (d : Fin 16) (h : 2 ≤ t.val ∨ d ≠ 0) : dutyK (some (some (t, k, d))) 0 = {0} := if_pos ⟨rfl, h⟩
theorem duty_loc (k : Fin 3) : dutyK kLoc k.val = {0} := if_pos k.isLt

theorem pay_bar (c : Dev nD) (d : Fin 16) : payK m ρ c kBar 0 d
    = iprop(slotAny (bwd c d) 0 (opp d) ∗ slotAny (bwd c d) 1 (opp d) ∗ slotAny (bwd c d) 2 (opp d)) := rfl
theorem pay_loc (c : Dev nD) (k : Fin 3) : payK m ρ c kLoc k.val 0 = locPay m ρ c k :=
  congrArg (locPay m ρ c) (Fin.ext (Nat.mod_eq_of_lt k.isLt))
theorem pay_rsS (c : Dev nD) (k : Fin 3) (d : Fin 16) : payK m ρ c (kRsS k d) 0 0 = pbfAny c (fwd c d) := rfl
theorem pay_rsR (c : Dev nD) (k : Fin 3) (d : Fin 16) : payK m ρ c (kRsR k d) 0 0
    = iprop(owns (c : Thread nD τ) (slotM k d) fullShare (rows c (pbfC m ρ k (bwd c d))) ∗ xgAny (bwd c d) c) := rfl
theorem pay_agS (c : Dev nD) (k : Fin 3) (d : Fin 16) : payK m ρ c (kAgS k d) 0 0 = redPiece c d (redC m ρ k c) := rfl
theorem pay_agR (c : Dev nD) (k : Fin 3) (d : Fin 16) : payK m ρ c (kAgR k d) 0 0
    = owns (c : Thread nD τ) (rowM mXg (bwd c d)) fullShare (redC m ρ k (bwd c d)) := rfl

instance payK_storable (c : Dev nD) (κ : Kd) (r : ℕ) (d : Fin 16) : BI.Storable (upEmb : UEmb _ 𝕄) (payK m ρ c κ r d) := by
  rcases κ with _ | _ | ⟨t, k, d'⟩
  · unfold payK; infer_instance
  · unfold payK; infer_instance
  · fin_cases t <;> (simp only [payK]; infer_instance)

def Rd : Rounds.Schedule (GSem nD τ sig) (Fin 16) 𝕄 where
  duties g r := if g.1.2 = .tc then (match kdOf g.2 with | some κ => dutyK κ r | none => ∅) else ∅
  unitless _ := False
  amount g _ _ := match kdOf g.2 with | some κ => amtK κ | none => 1
  payload g r d := match kdOf g.2 with | some κ => payK m ρ g.1.1 κ r d | none => iprop(emp)
  amount_pos g _ _ _ := by
    rcases kdOf g.2 with _ | _ | _ | _
    · exact Nat.one_pos
    · exact Nat.one_pos
    · exact NL_pos
    · exact N_pos

instance Rd_storable (g : GSem nD τ sig) (r : ℕ) (d : Fin 16) : BI.Storable (upEmb : UEmb _ 𝕄) ((Rd m ρ).payload g r d) := by
  show BI.Storable upEmb (match kdOf g.2 with | some κ => payK m ρ g.1.1 κ r d | none => iprop(emp))
  split <;> infer_instance

section Sched
variable (c : Dev nD) (κ : Kd)

theorem duties_at (r : ℕ) : (Rd m ρ).duties (kcell (c, κ)) r = dutyK κ r := by
  dsimp only [Rd]; rw [if_pos rfl, kdOf_semOf]
theorem amount_at (r : ℕ) (d : Fin 16) : (Rd m ρ).amount (kcell (c, κ)) r d = amtK κ := by dsimp only [Rd]; rw [kdOf_semOf]
theorem payload_at (r : ℕ) (d : Fin 16) : (Rd m ρ).payload (kcell (c, κ)) r d = payK m ρ c κ r d := by
  dsimp only [Rd]; rw [kdOf_semOf]
theorem expect_at (r : ℕ) : (Rd m ρ).expect (kcell (c, κ)) r = (dutyK κ r).card * amtK κ := by
  unfold Schedule.expect Schedule.amountOf
  rw [duties_at, Finset.sum_congr rfl fun d _ => amount_at m ρ c κ r d, Finset.sum_const, smul_eq_mul]
theorem rest_at (r : ℕ) : bigSep ((Rd m ρ).duties (kcell (c, κ)) r \ ∅) (fun d => (Rd m ρ).payload (kcell (c, κ)) r d)
    = bigSep (dutyK κ r) fun d => payK m ρ c κ r d := by
  rw [Finset.sdiff_empty, duties_at]; exact bigSep_congr fun d _ => payload_at m ρ c κ r d
end Sched

/-! ## What a device owes; the levels -/

/-- One unit owed: the cell and the amount. -/
abbrev Due : Type := GSem nD τ sig × ℕ

/-- The tally of a list of dues. -/
def tl : List Due → CellTallies nD τ sig Unit
  | [] => 0
  | x :: l => tl l + tallyAt x.1 () x.2

theorem tl_append (l l' : List Due) : tl (l ++ l') = tl l' + tl l := by
  induction l with
  | nil => exact (add_zero _).symm
  | cons x l ih => rw [List.cons_append, tl, tl, ih, add_assoc]

theorem tl_pos {l : List Due} {g : GSem nD τ sig} {u : Unit} (h : 0 < tl l g u) : ∃ x ∈ l, g = x.1 := by
  induction l with
  | nil => exact absurd h (Nat.lt_irrefl 0)
  | cons x l ih =>
    rw [tl, Pi.add_apply, Finsupp.add_apply] at h
    rcases Nat.add_pos_iff_pos_or_pos.mp h with h | h
    · obtain ⟨y, hy, e⟩ := ih h; exact ⟨y, List.mem_cons_of_mem _ hy, e⟩
    · rw [tallyAt_apply] at h
      by_cases e : g = x.1 ∧ u = ()
      · exact ⟨x, List.mem_cons_self, e.1⟩
      · rw [if_neg e] at h; exact absurd h (Nat.lt_irrefl 0)

/-- The levels: a barrier below the transfers, each layer's transfers in order. -/
def lvK : Kd → ℕ
  | none => 1
  | some (some (1, k, _)) => 2 + 2 * k.val
  | some (some (3, k, _)) => 3 + 2 * k.val
  | _ => 0

def L (g : GSem nD τ sig) : Finset Unit := if g.1.2 = .tc then {()} else ∅
def lv (g : GSem nD τ sig) (_ : Unit) : ℕ := match kdOf g.2 with | some κ => lvK κ | none => 0
theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (κ : Kd) (u : Unit) : lv (kcell (c, κ)) u = lvK κ := by dsimp only [lv]; rw [kdOf_semOf]

def dSig (c : Dev nD) (r : Fin 15) : Due := (kcell (fwd c (up r), kBar), 1)
def dRs (k : Fin 3) (c : Dev nD) (r : Fin 15) : Due := (kcell (fwd c (up r), kRsR k (up r)), N)
def dAg (k : Fin 3) (c : Dev nD) (d : Fin 16) : Due := (kcell (fwd c d, kAgR k d), N)

/-- One layer's dues, in program order, before the rest. -/
def dLayer (k : Fin 3) (c : Dev nD) (l : List Due) : List Due := rs15.map (dRs k c) ++ (rs16'.map (dAg k c) ++ l)
/-- The dues of the layers from the first, the second, the third. -/
def dues2 (c : Dev nD) : List Due := dLayer 2 c []
def dues1 (c : Dev nD) : List Due := dLayer 1 c (dues2 c)
def dues0 (c : Dev nD) : List Due := dLayer 0 c (dues1 c)
def duesAll (c : Dev nD) : List Due := rs15.map (dSig c) ++ dues0 c

/-- A list of dues all above a level, on TensorCore cells. -/
def Above (n : ℕ) (l : List Due) : Prop := ∀ x ∈ l, x.1.1.2 = .tc ∧ n < lv x.1 ()

theorem above_nil (n : ℕ) : Above n [] := fun x h => absurd h List.not_mem_nil
theorem above_append {n : ℕ} {l l' : List Due} (h : Above n l) (h' : Above n l') : Above n (l ++ l') := fun x hx =>
  (List.mem_append.mp hx).elim (h x) (h' x)
theorem above_mono {n n' : ℕ} {l : List Due} (hn : n ≤ n') (h : Above n' l) : Above n l := fun x hx =>
  ⟨(h x hx).1, Nat.lt_of_le_of_lt hn (h x hx).2⟩
theorem above_dSig (c : Dev nD) (n : ℕ) (hn : n < 1) (l : List (Fin 15)) : Above n (l.map (dSig c)) := fun x hx => by
  obtain ⟨r, -, rfl⟩ := List.mem_map.mp hx; exact ⟨rfl, by dsimp only [dSig]; rw [lv_at]; exact hn⟩
theorem above_dRs (k : Fin 3) (c : Dev nD) (n : ℕ) (hn : n < 2 + 2 * k.val) (l : List (Fin 15)) : Above n (l.map (dRs k c)) := fun x hx => by
  obtain ⟨r, -, rfl⟩ := List.mem_map.mp hx; exact ⟨rfl, by dsimp only [dRs]; rw [lv_at]; exact hn⟩
theorem above_dAg (k : Fin 3) (c : Dev nD) (n : ℕ) (hn : n < 3 + 2 * k.val) (l : List (Fin 16)) : Above n (l.map (dAg k c)) := fun x hx => by
  obtain ⟨r, -, rfl⟩ := List.mem_map.mp hx; exact ⟨rfl, by dsimp only [dAg]; rw [lv_at]; exact hn⟩
theorem above_layer (k : Fin 3) (c : Dev nD) (n : ℕ) (hn : n < 2 + 2 * k.val) {l : List Due} (h : Above n l) :
    Above n (dLayer k c l) :=
  above_append (above_dRs k c n hn _) (above_append (above_dAg k c n (by omega) _) h)
theorem above_dues2 (c : Dev nD) : Above 5 (dues2 c) := above_layer 2 c 5 (by decide) (above_nil _)
theorem above_dues1 (c : Dev nD) : Above 3 (dues1 c) := above_layer 1 c 3 (by decide) (above_mono (by decide) (above_dues2 c))
theorem above_dues0 (c : Dev nD) : Above 1 (dues0 c) := above_layer 0 c 1 (by decide) (above_mono (by decide) (above_dues1 c))
theorem above_duesAll (c : Dev nD) : Above 0 (duesAll c) :=
  above_append (above_dSig c 0 (by decide) _) (above_mono (by decide) (above_dues0 c))

/-- A wait below everything still owed is allowed. -/
theorem mayWait_of (c : Dev nD) (sm : SemLoc sig) (n : ℕ) (hn : lv ((c : Thread nD τ), sm) () ≤ n) (l : List Due) (hl : Above n l) :
    (levAts L lv : sProp 𝕄) ⊢ MayWait (c : Thread nD τ) sm () (tl l) :=
  MayOwe.of_cut (L := L) (lev := lv) n
    (fun p hp => by rw [Finset.mem_singleton.mp hp, L_tc]; exact Finset.mem_singleton_self _)
    (fun g u hg => by obtain ⟨x, hx, rfl⟩ := tl_pos hg; unfold L; rw [if_pos (hl x hx).1]; exact Finset.mem_singleton_self _)
    (fun p hp => by rw [Finset.mem_singleton.mp hp]; exact hn)
    (fun g u hg => by obtain ⟨x, hx, rfl⟩ := tl_pos hg; exact (hl x hx).2)

end Cert.KernelIdeal.Hand
-- ==== Proof.KernelIdeal.Ops.lean ====
/- One rule per operation of the body: what it needs, and what its continuation gets. -/
module

public import proofs.«01_k».proof.Proof.KernelIdeal.Common

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on a device. -/
abbrev WP (c : Dev nD) (p : P F) (Q : PUnit.{1} → sProp 𝕄) : sProp 𝕄 :=
  wp frame (wpE (defs₀ (F := F)) 𝒱₀ (c : Thread nD τ) none) Set.univ p Q

/-- What the device owes, whatever it has waited on. -/
abbrev ow (c : Dev nD) (l : List Due) : sProp 𝕄 := iprop(∃ W, owes (c : Thread nD τ) (tl l) W)

/-- A position of a cell. -/
abbrev pos (c : Dev nD) (κ : Kd) (r : ℕ) : sProp 𝕄 := atPos ER (kcell (c, κ)) r ∅ 0
/-- A unit to pay into a cell. -/
abbrev tok (c : Dev nD) (κ : Kd) (r : ℕ) (d : Fin 16) : sProp 𝕄 := dutyTok ER (kcell (c, κ)) r d
/-- The right to wait for an amount at a cell. -/
abbrev crd (c : Dev nD) (κ : Kd) (n : ℕ) : sProp 𝕄 := cred (tallyAt (kcell (c, κ)) () n)

variable (K : Dev nD × Kd → ℕ)

/-- The shared records: every cell's invariant, that its first round is reached, and the levels. -/
def recs : sProp 𝕄 :=
  iprop((bigSep Finset.univ fun ck : Dev nD × Kd => iprop(cellInv ER (Rd m ρ) (K ck) (kcell ck) ∗ reached ER (kcell ck) 0)) ∗ levAts L lv)

instance recs_persistent : BI.Persistent (recs m ρ K) := by
  unfold recs; infer_instance

theorem recs_both (c : Dev nD) (κ : Kd) :
    recs m ρ K ⊢ iprop(cellInv ER (Rd m ρ) (K (c, κ)) (kcell (c, κ)) ∗ reached ER (kcell (c, κ)) 0) := by
  unfold recs
  exact (sep_elim_left).trans (bigSep_elim (Finset.mem_univ (c, κ)))
theorem recs_inv (c : Dev nD) (κ : Kd) : recs m ρ K ⊢ cellInv ER (Rd m ρ) (K (c, κ)) (kcell (c, κ)) :=
  (recs_both m ρ K c κ).trans sep_elim_left
theorem recs_reached (c : Dev nD) (κ : Kd) : recs m ρ K ⊢ reached ER (kcell (c, κ)) 0 :=
  (recs_both m ρ K c κ).trans sep_elim_right
theorem recs_lev : recs m ρ K ⊢ levAts L lv := by unfold recs; exact sep_elim_right

theorem recs_wait (c : Dev nD) (κ : Kd) (l : List Due) (hl : Above (lvK κ) l) :
    recs m ρ K ⊢ MayWait (c : Thread nD τ) (semOf κ) () (tl l) :=
  (recs_lev m ρ K).trans (mayWait_of c (semOf κ) (lvK κ) (Nat.le_of_eq (lv_at c κ ())) l hl)

/-! ## Waits and signals -/

variable {c : Dev nD} {Q : PUnit.{1} → sProp (MT nD τ sig Unit (Elt F) ℕ UU ℕ)}

/-- A wait for a whole round of one of the device's cells, below all it still owes. -/
theorem step_wait (κ : Kd) (R n : ℕ) (l : List Due) (hl : Above (lvK κ) l) {w : TpuEff nD τ sig (Elt F) Λ₀ .tc PUnit.{1}}
    (hw : ∀ Kt : PUnit.{1} → sProp 𝕄, wpE (defs₀ (F := F)) 𝒱₀ (c : Thread nD τ) none Set.univ w Kt = waitSpec (c : Thread nD τ) Set.univ (semOf κ) n Kt)
    (hn : n = (dutyK κ R).card * amtK κ) (k : PUnit.{1} → P F) :
    iprop(recs m ρ K ∗ crd c κ n ∗ pos c κ R ∗ ow c l)
      ⊢ iprop(((ow c l ∗ pos c κ (R + 1) ∗ reached ER (kcell (c, κ)) (R + 1) ∗ bigSep (dutyK κ R) fun d => payK m ρ c κ R d)
          -∗ WP c (k ⟨⟩) Q) -∗ WP c (.op w k) Q) := by
  iintro ⟨#HR, Hc, Hp, ⟨%W, HO⟩⟩ Hk
  iapply (Rounds.wp_wait_rest_token 𝒱₀ ER (Rd m ρ) (c : Thread nD τ) none (κ := K (c, κ)) hw (Set.mem_univ _) () (O := tl l) (W := W)
    (R := R) (m := 0) (T := ∅) (by rw [Nat.zero_add, hn]; exact (expect_at m ρ c κ R).symm)) $$ [Hc HO Hp]
  · isplitr; · iapply (recs_inv m ρ K c κ); iexact HR
    isplitl [Hc]; · iexact Hc
    isplitl [HO]; · iexact HO
    isplitr; · iapply (recs_wait m ρ K c κ l hl); iexact HR
    iexact Hp
  iintro ⟨HO, Hp, Hr, Hpay⟩
  ihave Hpay := (Entails.of_eq (rest_at m ρ c κ R)) $$ Hpay
  iapply Hk
  isplitl [HO]; · iexists _; iexact HO
  isplitl [Hp]; · iexact Hp
  isplitl [Hr]; · iexact Hr
  iexact Hpay

/-- The wait of a transfer's single-duty round. -/
theorem step_dma (κ : Kd) (q : DmaSem sig) (hq : semOf κ = .dma q) (R : ℕ) (l : List Due) (hl : Above (lvK κ) l)
    (hd : dutyK κ R = {0}) {s s' : Shape} {e e' : EltTy} {src : Memref sig .tc .vmem s' e'} {dst : Memref sig .tc .vmem s e}
    {hsrc : src.view.WordExact} {hdst : dst.view.WordExact} (hN : dst.view.dmaCredit = amtK κ) (k : P F) :
    iprop(recs m ρ K ∗ (crd c κ (amtK κ) ∗ pos c κ R) ∗ ow c l)
      ⊢ iprop((((pos c κ (R + 1) ∗ reached ER (kcell (c, κ)) (R + 1) ∗ payK m ρ c κ R 0) ∗ ow c l) -∗ WP c k Q)
          -∗ WP c (.op (.waitDma2 q src dst hsrc hdst) fun _ => k) Q) := by
  iintro ⟨#HR, ⟨Hc, Hp⟩, HO⟩ Hk
  iapply (step_wait m ρ K (c := c) κ R (amtK κ) l hl
    (hw := fun Kt => (wpE_waitDma2_eq 𝒱₀ (c : Thread nD τ) none Set.univ Kt).trans (by rw [hN, hq]))
    (by rw [hd, Finset.card_singleton, one_mul]) (fun _ => k)) $$ [Hc Hp HO]
  · isplitr; · iexact HR
    isplitl [Hc]; · iexact Hc
    isplitl [Hp]; · iexact Hp
    iexact HO
  iintro ⟨HO, Hp, Hr, Hpay⟩
  ihave Hpay := (Entails.of_eq ((congrArg (fun S => bigSep S fun d => payK m ρ c κ R d) hd).trans (bigSep_singleton))) $$ Hpay
  iapply Hk
  isplitl [Hp Hr Hpay]
  · isplitl [Hp]; · iexact Hp
    isplitl [Hr]; · iexact Hr
    iexact Hpay
  iexact HO

/-- The slots a device hands the peer at distance `r + 1`. -/
abbrev slotsAny (c : Dev nD) (d : Fin 16) : sProp 𝕄 := iprop(slotAny c 0 d ∗ slotAny c 1 d ∗ slotAny c 2 d)

theorem step_signal (r : Fin 15) (l : List Due) (k : P F) :
    iprop(recs m ρ K ∗ (tok (fwd c (up r)) kBar 0 (up r) ∗ slotsAny c (opp (up r))) ∗ ow c (dSig c r :: l))
      ⊢ iprop(((emp ∗ ow c l) -∗ WP c k Q) -∗ WP c (opSignal F c r k) Q) := by
  unfold opSignal
  simp only [semSignalWord, Prog.lift, Prog.bind_op, Prog.bind_ret, Prog.pure_eq_ret]
  rw [devW_eq]
  iintro ⟨#HR, ⟨Ht, Hs⟩, ⟨%W, HO⟩⟩ Hk
  iapply (Rounds.wp_signal 𝒱₀ ER (Rd m ρ) (c : Thread nD τ) none (dst := (fwd c (up r) : Thread nD τ)) (κ := K (fwd c (up r), kBar)) (r := 0) (d := up r)
    (sem := qBar)
    ((duties_at m ρ (fwd c (up r)) kBar 0).symm ▸ (Finset.mem_erase.mpr ⟨Fin.succ_ne_zero r, Finset.mem_univ _⟩ : up r ∈ Finset.univ.erase (0 : Fin 16)))
    ((amount_at m ρ (fwd c (up r)) kBar 0 (up r)).trans (by decide)) () (tl l) rfl) $$ [HO Ht Hs]
  · isplitr; · iapply (recs_inv m ρ K (fwd c (up r)) kBar); iexact HR
    isplitl [HO]; · iexact HO
    isplitl [Ht]; · iexact Ht
    isplitl [Hs]
    · iapply (show slotsAny c (opp (up r)) ⊢ (Rd m ρ).payload ((fwd c (up r) : Thread nD τ), .reg qBar) 0 (up r) from
        Entails.of_eq ((by rw [pay_bar, bwd_fwd]) : slotsAny c (opp (up r)) = payK m ρ (fwd c (up r)) kBar 0 (up r))
          |>.trans (Entails.of_eq (payload_at m ρ (fwd c (up r)) kBar 0 (up r)).symm))
      iexact Hs
    · iapply (recs_reached m ρ K (fwd c (up r)) kBar); iexact HR
  iintro HO
  iapply Hk
  isplitr; · iempintro
  iexists W; iexact HO

theorem step_barrier (l : List Due) (hl : Above 1 l) (k : P F) :
    iprop(recs m ρ K ∗ crd c kBar 15 ∗ pos c kBar 0 ∗ ow c l)
      ⊢ iprop(((ow c l ∗ pos c kBar 1 ∗ bigSep (Finset.univ.erase (0 : Fin 16)) fun d => slotsAny (bwd c d) (opp d))
          -∗ WP c k Q) -∗ WP c (opBarrier F k) Q) := by
  unfold opBarrier
  simp only [semWaitWord, Prog.lift, Prog.bind_op, Prog.bind_ret, Prog.pure_eq_ret]
  iintro ⟨#HR, Hc, Hp, HO⟩ Hk
  iapply (step_wait m ρ K (c := c) kBar 0 15 l hl
    (hw := wpE_semWait_eq 𝒱₀ (c : Thread nD τ) none Set.univ) (by decide +kernel) (fun _ => k)) $$ [Hc Hp HO]
  · isplitr; · iexact HR
    isplitl [Hc]; · iexact Hc
    isplitl [Hp]; · iexact Hp
    iexact HO
  iintro ⟨HO, Hp, -, Hpay⟩
  iapply Hk
  isplitl [HO]; · iexact HO
  isplitl [Hp]; · iexact Hp
  iexact Hpay

/-! ## Transfers -/

/-- A transfer to a peer, paying a unit of the device's own send cell and one of the peer's receive cell. -/
theorem step_send (t t' : Fin 4) (j : Fin 3) (d : Fin 16) (hd : dutyK (some (some (t, j, d))) 0 = {0}) (hd' : dutyK (some (some (t', j, d))) 0 = {0})
    (n p : Dev nD) (hn : n = p) {src dst : Memref sig .tc .vmem S4x1024 .bf16} (hN : dst.view.dmaCredit = N)
    {hsc : dst.view.ref.isScScratch = false} {hsrc : src.view.WordExact} {hdst : dst.view.WordExact}
    {hsem : DmaTarget.Typed .vmem (.dma (qOf t' j d)) (.remote (Dev.tc n : Thread nD τ) dst (.dma (qOf t j d)) hsc)}
    {q : PosShare TreeShare} {fs : Buf (Elt F) (src.view.loc (c : Thread nD τ))} {fd : Buf (Elt F) (dst.view.loc (p : Thread nD τ))} {Fr : sProp 𝕄}
    (hp : (src.view.loc (c : Thread nD τ) ↦[src.view.set]{q} fs) ⊢ payK m ρ c (some (some (t, j, d))) 0 0)
    (hp' : iprop((dst.view.loc (p : Thread nD τ) ↦[dst.view.set]{fullShare} (dst.view.write (Elt F) fd (src.view.read (Elt F) fs) Finset.univ)) ∗ Fr)
      ⊢ payK m ρ p (some (some (t', j, d))) 0 0) (l : List Due) (k : P F) :
    iprop(recs m ρ K ∗ (tok c (some (some (t, j, d))) 0 0 ∗ tok p (some (some (t', j, d))) 0 0
        ∗ (src.view.loc (c : Thread nD τ) ↦[src.view.set]{q} fs) ∗ (dst.view.loc (p : Thread nD τ) ↦[dst.view.set]{fullShare} fd) ∗ Fr)
        ∗ ow c ((kcell (p, some (some (t', j, d))), N) :: l))
      ⊢ iprop(((crd c (some (some (t, j, d))) N ∗ ow c l) -∗ WP c k Q)
          -∗ WP c (.op (.enqueueDma src (.remote (Dev.tc n : Thread nD τ) dst (.dma (qOf t j d)) hsc) (.dma (qOf t' j d)) hsrc hdst hsem) fun _ => k) Q) := by
  subst hn
  iintro ⟨#HR, ⟨Ht, Ht', Hs, Hd, HF⟩, ⟨%W, HO⟩⟩ Hk
  iapply (Rounds.wp_send_pointsTo_with 𝒱₀ ER (Rd m ρ) (c : Thread nD τ) none (κ₁ := K (c, some (some (t, j, d)))) (κ₂ := K (n, some (some (t', j, d))))
    (c' := (n : Thread nD τ)) (sS := .dma (qOf t j d)) (sem := .dma (qOf t' j d))
    (r₁ := 0) (r₂ := 0) (d₁ := (0 : Fin 16)) (d₂ := (0 : Fin 16)) (fd := fd) (fs := fs) (q := q) (F := Fr)
    ((duties_at m ρ c (some (some (t, j, d))) 0).symm ▸ hd ▸ Finset.mem_singleton_self _)
    ((duties_at m ρ n (some (some (t', j, d))) 0).symm ▸ hd' ▸ Finset.mem_singleton_self _)
    () () N hN (amount_at m ρ c (some (some (t, j, d))) 0 0) (amount_at m ρ n (some (some (t', j, d))) 0 0) (tl l) rfl (W := W)
    (hp.trans (Entails.of_eq (payload_at m ρ c (some (some (t, j, d))) 0 0).symm))
    (hp'.trans (Entails.of_eq (payload_at m ρ n (some (some (t', j, d))) 0 0).symm))) $$ [HO Ht Ht' Hs Hd HF]
  · isplitr; · iapply (recs_inv m ρ K c (some (some (t, j, d)))); iexact HR
    isplitr; · iapply (recs_inv m ρ K n (some (some (t', j, d)))); iexact HR
    isplitl [Hs]; · iexact Hs
    isplitl [Hd HF]; · isplitl [Hd] <;> iassumption
    isplitl [HO]; · iexact HO
    isplitl [Ht]; · iexact Ht
    isplitr; · iapply (recs_reached m ρ K c (some (some (t, j, d)))); iexact HR
    isplitl [Ht']; · iexact Ht'
    iapply (recs_reached m ρ K n (some (some (t', j, d)))); iexact HR
  iintro ⟨Hc, HO⟩
  iapply Hk
  isplitl [Hc]; · iexact Hc
  iexists W; iexact HO

theorem owns_intro {s : Shape} {e : EltTy} (M : Memref sig .tc .vmem s e) (q : PosShare TreeShare) (f : Buf (Elt F) (M.view.loc (c : Thread nD τ))) :
    (M.view.loc (c : Thread nD τ) ↦[M.view.set]{q} f : sProp 𝕄) ⊢ owns (c : Thread nD τ) M q (M.view.read (Elt F) f) := by
  unfold owns
  iintro H; iexists f; isplitr; · ipureintro; rfl
  iexact H

theorem owns_any {s : Shape} {e : EltTy} (M : Memref sig .tc .vmem s e) (q : PosShare TreeShare) (f : Buf (Elt F) (M.view.loc (c : Thread nD τ))) :
    (M.view.loc (c : Thread nD τ) ↦[M.view.set]{q} f : sProp 𝕄) ⊢ iprop(∃ X, owns (c : Thread nD τ) M q X) :=
  (owns_intro M q f).trans (by iintro H; iexists _; iexact H)

theorem owns_written {s : Shape} {e : EltTy} (M : Memref sig .tc .vmem s e) (f : Buf (Elt F) (M.view.loc (c : Thread nD τ))) (w X : s.Idx → Elt F e) (h : w = X) :
    (M.view.loc (c : Thread nD τ) ↦[M.view.set]{fullShare} (M.view.write (Elt F) f w Finset.univ) : sProp 𝕄) ⊢ owns (c : Thread nD τ) M fullShare X := by
  subst h
  refine (owns_intro M fullShare _).trans ?_
  rw [View.read_write_univ]

theorem rsSend_at (j : Fin 3) (d : Fin 16) (hd : d ≠ 0) (n : Dev nD) (hn : n = fwd c d) (M : Memref sig .tc .vmem S4x1024 .bf16) (hM : M = rowM mPbf (fwd c d))
    {hsc : (slotM j d).view.ref.isScScratch = false} {hsrc : M.view.WordExact} {hdst : (slotM j d).view.WordExact}
    {hsem : DmaTarget.Typed .vmem (.dma (qOf 1 j d)) (.remote (Dev.tc n : Thread nD τ) (slotM j d) (.dma (qOf 0 j d)) hsc)} (l : List Due) (k : P F) :
    iprop(recs m ρ K ∗ (tok c (kRsS j d) 0 0 ∗ tok (fwd c d) (kRsR j d) 0 0
        ∗ owns (c : Thread nD τ) (rowM mPbf (fwd c d)) fullShare (rows (fwd c d) (pbfC m ρ j c))
        ∗ slotAny (fwd c d) j d ∗ xgAny c (fwd c d)) ∗ ow c ((kcell (fwd c d, kRsR j d), N) :: l))
      ⊢ iprop(((crd c (kRsS j d) N ∗ ow c l) -∗ WP c k Q)
          -∗ WP c (.op (.enqueueDma M (.remote (Dev.tc n : Thread nD τ) (slotM j d) (.dma (qOf 0 j d)) hsc) (.dma (qOf 1 j d)) hsrc hdst hsem) fun _ => k) Q) := by
  subst hM
  iintro ⟨#HR, ⟨Ht, Ht', Hs, ⟨%X, Hd⟩, HF⟩, HO⟩ Hk
  unfold owns
  icases Hs with ⟨%fs, %hfs, Hs⟩
  icases Hd with ⟨%fd, %hfd, Hd⟩
  iapply (step_send m ρ K 0 1 j d (duty_xfer 0 j d (Or.inr hd)) (duty_xfer 1 j d (Or.inr hd))
    n (fwd c d) hn (src := rowM mPbf (fwd c d)) (dst := slotM j d) (credit_slot j d) (q := fullShare) (fs := fs) (fd := fd) (Fr := xgAny c (fwd c d))
    ((owns_any (rowM mPbf (fwd c d)) fullShare fs).trans (Entails.of_eq (pay_rsS m ρ c j d).symm))
    (by
      rw [pay_rsR, bwd_fwd]
      exact sep_mono_left (owns_written (slotM j d) fd _ _ hfs)) l k) $$ [HR Ht Ht' Hs Hd HF HO]
  · isplitr; · iexact HR
    isplitr [HO]
    · isplitl [Ht]; · iexact Ht
      isplitl [Ht']; · iexact Ht'
      isplitl [Hs]; · iexact Hs
      isplitl [Hd]; · iexact Hd
      iexact HF
    iexact HO
  iexact Hk

theorem step_rsSend (j : Fin 3) (r : Fin 15) (l : List Due) (k : P F) :
    iprop(recs m ρ K ∗ (tok c (kRsS j (up r)) 0 0 ∗ tok (fwd c (up r)) (kRsR j (up r)) 0 0
        ∗ owns (c : Thread nD τ) (rowM mPbf (fwd c (up r))) fullShare (rows (fwd c (up r)) (pbfC m ρ j c))
        ∗ slotAny (fwd c (up r)) j (up r) ∗ xgAny c (fwd c (up r))) ∗ ow c (dRs j c r :: l))
      ⊢ iprop(((crd c (kRsS j (up r)) N ∗ ow c l) -∗ WP c k Q) -∗ WP c (opRsSend F c j r k) Q) :=
  rsSend_at m ρ K j (up r) (Fin.succ_ne_zero r) _ (devW_eq c (up r)) _ (sendM_eq c r) l k

theorem agSend_at (j : Fin 3) (d : Fin 16) (n : Dev nD) (hn : n = fwd c d) (M : Memref sig .tc .vmem S4x1024 .bf16) (hM : M = rowM mXg c)
    {hsc : M.view.ref.isScScratch = false} {hsrc : (mRed : Memref sig .tc .vmem S4x1024 .bf16).view.WordExact} {hdst : M.view.WordExact}
    {hsem : DmaTarget.Typed .vmem (.dma (qOf 3 j d)) (.remote (Dev.tc n : Thread nD τ) M (.dma (qOf 2 j d)) hsc)} (l : List Due) (k : P F) :
    iprop(recs m ρ K ∗ (tok c (kAgS j d) 0 0 ∗ tok (fwd c d) (kAgR j d) 0 0
        ∗ redPiece c d (redC m ρ j c) ∗ xgAny (fwd c d) c) ∗ ow c ((kcell (fwd c d, kAgR j d), N) :: l))
      ⊢ iprop(((crd c (kAgS j d) N ∗ ow c l) -∗ WP c k Q)
          -∗ WP c (.op (.enqueueDma mRed (.remote (Dev.tc n : Thread nD τ) M (.dma (qOf 2 j d)) hsc) (.dma (qOf 3 j d)) hsrc hdst hsem) fun _ => k) Q) := by
  subst hM
  iintro ⟨#HR, ⟨Ht, Ht', Hs, ⟨%X, Hd⟩⟩, HO⟩ Hk
  unfold owns
  icases Hd with ⟨%fd, %hfd, Hd⟩
  iapply (step_send m ρ K 2 3 j d (duty_xfer 2 j d (Or.inl (by decide))) (duty_xfer 3 j d (Or.inl (by decide)))
    n (fwd c d) hn (src := mRed) (dst := rowM mXg c) (credit_row _) (q := pieceOf fullShare 16 (by decide) d) (fs := redC m ρ j c) (fd := fd) (Fr := iprop(emp))
    (Entails.of_eq (pay_agS m ρ c j d).symm)
    (by
      rw [pay_agR, bwd_fwd]
      exact sep_elim_left.trans (owns_written (rowM mXg c) fd _ _ rfl)) l k) $$ [HR Ht Ht' Hs Hd HO]
  · isplitr; · iexact HR
    isplitr [HO]
    · isplitl [Ht]; · iexact Ht
      isplitl [Ht']; · iexact Ht'
      isplitl [Hs]; · iexact Hs
      isplitl [Hd]; · iexact Hd
      iempintro
    iexact HO
  iexact Hk

theorem step_agSend (j : Fin 3) (d : Fin 16) (l : List Due) (k : P F) :
    iprop(recs m ρ K ∗ (tok c (kAgS j d) 0 0 ∗ tok (fwd c d) (kAgR j d) 0 0
        ∗ redPiece c d (redC m ρ j c) ∗ xgAny (fwd c d) c) ∗ ow c (dAg j c d :: l))
      ⊢ iprop(((crd c (kAgS j d) N ∗ ow c l) -∗ WP c k Q) -∗ WP c (opAgSend F c j d k) Q) :=
  agSend_at m ρ K j d _ (devW_eq c d) _ (gatM_eq c) l k

/-- A row block of the f32 partial, at any contents. -/
abbrev partAny (c : Dev nD) : sProp 𝕄 := iprop(∃ X, owns (c : Thread nD τ) (rowM mPart c) fullShare X)

theorem copy_at (j : Fin 3) (M : Memref sig .tc .vmem S4x1024 .f32) (hM : M = rowM mPart c)
    {hsrc : M.view.WordExact} {hdst : (mOwn : Memref sig .tc .vmem S4x1024 .f32).view.WordExact}
    {hsem : DmaTarget.Typed (nD := nD) (τ := τ) (p := .tc) .vmem (.dma qLoc) (.here (mOwn : Memref sig .tc .vmem S4x1024 .f32))} (k : P F) :
    iprop(recs m ρ K ∗ tok c kLoc j.val 0 ∗ reached ER (kcell (c, kLoc)) j.val
        ∗ owns (c : Thread nD τ) (rowM mPart c) fullShare (rows c (partC m ρ j c)) ∗ ∃ X, owns (c : Thread nD τ) mOwn fullShare X)
      ⊢ iprop((crd c kLoc NL -∗ WP c k Q) -∗ WP c (.op (.enqueueDma M (.here mOwn) (.dma qLoc) hsrc hdst hsem) fun _ => k) Q) := by
  subst hM
  iintro ⟨#HR, Ht, #Hr, Hs, ⟨%X, Hd⟩⟩ Hk
  unfold owns
  icases Hs with ⟨%fs, %hfs, Hs⟩
  icases Hd with ⟨%fd, %hfd, Hd⟩
  iapply (Rounds.wp_copy_pointsTo 𝒱₀ ER (Rd m ρ) (c : Thread nD τ) none (κ := K (c, kLoc)) (sem := .dma qLoc) (src := rowM mPart c) (dst := mOwn) (q := fullShare)
    (fs := fs) (fd := fd) (r := j.val) (d := (0 : Fin 16))
    ((duties_at m ρ c kLoc j.val).symm ▸ (duty_loc j).symm ▸ Finset.mem_singleton_self _)
    () NL credit_own (amount_at m ρ c kLoc j.val 0)
    (show _ ⊢ (Rd m ρ).payload (kcell (c, kLoc)) j.val 0 from by
      rw [payload_at, pay_loc]
      unfold locPay
      exact BI.sep_mono (owns_written mOwn fd _ _ hfs) (owns_any (rowM mPart c) fullShare fs))) $$ [HR Ht Hr Hs Hd]
  · isplitr; · iapply (recs_inv m ρ K c kLoc); iexact HR
    isplitl [Hs]; · iexact Hs
    isplitl [Hd]; · iexact Hd
    isplitl [Ht]; · iexact Ht
    iexact Hr
  iexact Hk

theorem step_copy (j : Fin 3) (k : P F) :
    iprop(recs m ρ K ∗ tok c kLoc j.val 0 ∗ reached ER (kcell (c, kLoc)) j.val
        ∗ owns (c : Thread nD τ) (rowM mPart c) fullShare (rows c (partC m ρ j c)) ∗ ∃ X, owns (c : Thread nD τ) mOwn fullShare X)
      ⊢ iprop((crd c kLoc NL -∗ WP c k Q) -∗ WP c (opCopy F c k) Q) :=
  copy_at m ρ K j _ (ownM_eq c) k

/-! ## The waits of transfers -/

theorem step_copied (j : Fin 3) (l : List Due) (hl : Above 0 l) (k : P F) :
    iprop(recs m ρ K ∗ (crd c kLoc NL ∗ pos c kLoc j.val) ∗ ow c l)
      ⊢ iprop((((pos c kLoc (j.val + 1) ∗ reached ER (kcell (c, kLoc)) (j.val + 1)
            ∗ owns (c : Thread nD τ) mOwn fullShare (rows c (partC m ρ j c)) ∗ partAny c) ∗ ow c l) -∗ WP c k Q)
          -∗ WP c (opCopied F c k) Q) := by
  show _ ⊢ iprop((((_ ∗ _ ∗ locPay m ρ c j) ∗ _) -∗ _) -∗ _)
  rw [← pay_loc]
  exact step_dma m ρ K kLoc qLoc rfl j.val l hl (duty_loc j) credit_own k

theorem step_rsRecv (j : Fin 3) (r : Fin 15) (l : List Due) (hl : Above (2 + 2 * j.val) l) (k : P F) :
    iprop(recs m ρ K ∗ (crd c (kRsR j (up r)) N ∗ pos c (kRsR j (up r)) 0) ∗ ow c l)
      ⊢ iprop((((pos c (kRsR j (up r)) 1 ∗ reached ER (kcell (c, kRsR j (up r))) 1
            ∗ owns (c : Thread nD τ) (slotM j (up r)) fullShare (rows c (pbfC m ρ j (bwd c (up r)))) ∗ xgAny (bwd c (up r)) c) ∗ ow c l) -∗ WP c k Q)
          -∗ WP c (opRsRecv F c j r k) Q) := by
  rw [← pay_rsR]
  exact step_dma m ρ K (kRsR j (up r)) (qOf 1 j (up r)) rfl 0 l hl (duty_xfer 1 j (up r) (Or.inr (Fin.succ_ne_zero r))) (credit_slot j (up r)) k

theorem step_agRecv (j : Fin 3) (d : Fin 16) (l : List Due) (hl : Above (3 + 2 * j.val) l) (k : P F) :
    iprop(recs m ρ K ∗ (crd c (kAgR j d) N ∗ pos c (kAgR j d) 0) ∗ ow c l)
      ⊢ iprop((((pos c (kAgR j d) 1 ∗ reached ER (kcell (c, kAgR j d)) 1
            ∗ owns (c : Thread nD τ) (rowM mXg (bwd c d)) fullShare (redC m ρ j (bwd c d))) ∗ ow c l) -∗ WP c k Q)
          -∗ WP c (opAgRecv F c j d k) Q) := by
  rw [← pay_agR]
  exact step_dma m ρ K (kAgR j d) (qOf 3 j d) rfl 0 l hl (duty_xfer 3 j d (Or.inl (by decide))) (credit_row _) k

theorem step_rsDone (j : Fin 3) (r : Fin 15) (l : List Due) (hl : Above 0 l) (k : P F) :
    iprop(recs m ρ K ∗ (crd c (kRsS j (up r)) N ∗ pos c (kRsS j (up r)) 0) ∗ ow c l)
      ⊢ iprop((((pos c (kRsS j (up r)) 1 ∗ reached ER (kcell (c, kRsS j (up r))) 1 ∗ pbfAny c (fwd c (up r))) ∗ ow c l) -∗ WP c k Q)
          -∗ WP c (opRsDone F c j r k) Q) := by
  rw [← pay_rsS]
  exact step_dma m ρ K (kRsS j (up r)) (qOf 0 j (up r)) rfl 0 l hl (duty_xfer 0 j (up r) (Or.inr (Fin.succ_ne_zero r))) (credit_row _) k

theorem step_agDone (j : Fin 3) (d : Fin 16) (l : List Due) (hl : Above 0 l) (k : P F) :
    iprop(recs m ρ K ∗ (crd c (kAgS j d) N ∗ pos c (kAgS j d) 0) ∗ ow c l)
      ⊢ iprop((((pos c (kAgS j d) 1 ∗ reached ER (kcell (c, kAgS j d)) 1 ∗ redPiece c d (redC m ρ j c)) ∗ ow c l) -∗ WP c k Q)
          -∗ WP c (opAgDone F c j d k) Q) := by
  rw [← pay_agS]
  exact step_dma m ρ K (kAgS j d) (qOf 2 j d) rfl 0 l hl (duty_xfer 2 j d (Or.inl (by decide))) (credit_row mRed) k

/-! ## Loads and stores -/

theorem full_emb {s : Shape} (off : Fin s.rank → Nat) (ho : ∀ a, off a = 0) (inb : ∀ a, off a + s.size a ≤ s.size a) (i : s.Idx) :
    (Rect.unit (s := s) off s.size inb).emb i = i :=
  funext fun a => Fin.ext (by rw [Rect.emb_apply]; show off a + 1 * _ = _; rw [ho a, Nat.zero_add, Nat.one_mul])

theorem load_full {s : Shape} {e : EltTy} (M : Memref sig .tc .vmem s e) (off : Fin s.rank → Nat) (ho : ∀ a, off a = 0)
    (inb : ∀ a, off a + s.size a ≤ s.size a) {hl : M.view.LoadsAt (Rect.unit (s := s) off s.size inb).toLoadRect} (q : PosShare TreeShare) (X : Vec F s e)
    (k : Vec F s e → P F) :
    (owns (c : Thread nD τ) M q X : sProp 𝕄)
      ⊢ iprop((owns (c : Thread nD τ) M q X -∗ WP c (k X) Q)
          -∗ WP c (.op (.load M (Rect.unit (s := s) off s.size inb).toLoadRect hl) k) Q) := by
  unfold owns
  iintro ⟨%f, %hf, H⟩ Hk
  iapply (wp_load 𝒱₀ (c : Thread nD τ) none Set.univ (m := M) (View.setOn_subset_set _ _)) $$ H
  iintro H
  have hX : M.view.readAt (Elt F) (Rect.unit (s := s) off s.size inb).toLoadRect f = X := by
    subst hf; funext i
    exact congrArg (M.view.read (Elt F) f) (full_emb off ho inb i)
  rw [hX]
  iapply Hk
  iexists f; isplitr; · ipureintro; exact hf
  iexact H

theorem store_full {s : Shape} {e : EltTy} (M : Memref sig .tc .vmem s e) (off : Fin s.rank → Nat) (ho : ∀ a, off a = 0)
    (inb : ∀ a, off a + s.size a ≤ s.size a) (v : Vec F s e) {hx : (M.access (Rect.unit (s := s) off s.size inb)).Stores Finset.univ}
    {hm : (Finset.univ : Finset (Rect.unit (s := s) off s.size inb).shape.Idx) = Finset.univ ∨ ∀ a, (Rect.unit (s := s) off s.size inb).stride a = 1} (k : P F) :
    iprop(∃ X, owns (c : Thread nD τ) M fullShare X : sProp 𝕄)
      ⊢ iprop((owns (c : Thread nD τ) M fullShare v -∗ WP c k Q)
          -∗ WP c (.op (.store M (Rect.unit (s := s) off s.size inb) v Finset.univ hx hm) fun _ => k) Q) := by
  unfold owns
  iintro ⟨%X, %f, %hf, H⟩ Hk
  iapply (wp_store 𝒱₀ (c : Thread nD τ) none Set.univ (m := M) (r := Rect.unit (s := s) off s.size inb) (w := v) (Mk := Finset.univ)
    (S := M.view.set) (f := f) (by rw [View.setOn_univ]; exact View.set_slice_subset _ _)) $$ H
  iintro H
  iapply Hk
  iexists _; isplitr; rotate_left; · iexact H
  ipureintro
  funext i
  refine Eq.trans ?_ (congrFun (View.read_write_univ (v := M.access (Rect.unit (s := s) off s.size inb)) (Val := Elt F) f v) i)
  exact (congrArg (M.view.read (Elt F) _) (full_emb off ho inb i)).symm

theorem zero2 : ∀ a, (![0, 0] : Fin 2 → Nat) a = 0 := by decide

theorem step_ldS {e : EltTy} (M : Memref sig .tc .vmem S64x1024 e) (q : PosShare TreeShare) (X : Vec F S64x1024 e) (k : Vec F S64x1024 e → P F) :
    (owns (c : Thread nD τ) M q X : sProp 𝕄) ⊢ iprop((owns (c : Thread nD τ) M q X -∗ WP c (k X) Q) -∗ WP c (ldS M k) Q) :=
  load_full M _ zero2 _ q X k

theorem step_ldR {e : EltTy} (M : Memref sig .tc .vmem S4x1024 e) (q : PosShare TreeShare) (X : Vec F S4x1024 e) (k : Vec F S4x1024 e → P F) :
    (owns (c : Thread nD τ) M q X : sProp 𝕄) ⊢ iprop((owns (c : Thread nD τ) M q X -∗ WP c (k X) Q) -∗ WP c (ldR M k) Q) :=
  load_full M _ zero2 _ q X k

theorem step_stS (M : Memref sig .tc .vmem S64x1024 .f32) (v : Vec F S64x1024 .f32) (k : P F) :
    iprop(∃ X, owns (c : Thread nD τ) M fullShare X : sProp 𝕄) ⊢ iprop((owns (c : Thread nD τ) M fullShare v -∗ WP c k Q) -∗ WP c (stS M v k) Q) :=
  store_full M _ zero2 _ v k

theorem step_stPbf (v : Vec F S64x1024 .bf16) (k : P F) :
    iprop(∃ X, owns (c : Thread nD τ) mPbf fullShare X : sProp 𝕄) ⊢ iprop((owns (c : Thread nD τ) mPbf fullShare v -∗ WP c k Q) -∗ WP c (stPbf v k) Q) :=
  store_full mPbf _ zero2 _ v k

theorem step_stRed (v : Vec F S4x1024 .bf16) (k : P F) :
    iprop(∃ X, owns (c : Thread nD τ) mRed fullShare X : sProp 𝕄) ⊢ iprop((owns (c : Thread nD τ) mRed fullShare v -∗ WP c k Q) -∗ WP c (stRed v k) Q) :=
  store_full mRed _ zero2 _ v k

theorem load_part {s : Shape} {e : EltTy} (M : Memref sig .tc .vmem s e) (r : Rect s) {hl : M.view.LoadsAt r.toLoadRect} (q : PosShare TreeShare) (X : Vec F s e)
    (k : (r.shape.Idx → Elt F e) → P F) :
    (owns (c : Thread nD τ) M q X : sProp 𝕄)
      ⊢ iprop((owns (c : Thread nD τ) M q X -∗ WP c (k fun i => X (r.emb i)) Q) -∗ WP c (.op (.load M r.toLoadRect hl) k) Q) := by
  unfold owns
  iintro ⟨%f, %hf, H⟩ Hk
  iapply (wp_load 𝒱₀ (c : Thread nD τ) none Set.univ (m := M) (View.setOn_subset_set _ _)) $$ H
  iintro H
  have hX : M.view.readAt (Elt F) r.toLoadRect f = fun i => X (r.emb i) := by subst hf; rfl
  rw [hX]
  iapply Hk
  iexists f; isplitr; · ipureintro; exact hf
  iexact H

theorem step_ldIn (M : Memref sig .tc .vmem S1024x2048 .f32) (j : Fin 4) (q : PosShare TreeShare) (X : Vec F S1024x2048 .f32) (k : Vec F S1024x512 .f32 → P F) :
    (owns (c : Thread nD τ) M q X : sProp 𝕄) ⊢ iprop((owns (c : Thread nD τ) M q X -∗ WP c (k (inB X j)) Q) -∗ WP c (ldIn M j k) Q) :=
  load_part M (inR j) q X k

theorem step_ldOut (M : Memref sig .tc .vmem S2048x1024 .f32) (j : Fin 4) (q : PosShare TreeShare) (X : Vec F S2048x1024 .f32) (k : Vec F S512x1024 .f32 → P F) :
    (owns (c : Thread nD τ) M q X : sProp 𝕄) ⊢ iprop((owns (c : Thread nD τ) M q X -∗ WP c (k (outB X j)) Q) -∗ WP c (ldOut M j k) Q) :=
  load_part M (outR j) q X k

theorem slot_set (j : Fin 3) (d : Fin 16) :
    mRs.view.setOn (Rect.unit (s := S3x16x4x1024) ![j.val, d.val, 0, 0] S1x1x4x1024.size (slot_inb j d)).set ⊆ (slotM j d).view.set :=
  Eq.subset ((View.set_slice mRs.view _).symm.trans (View.set_reshape _ _).symm)

/-- Loading a slot and dropping its unit axes reads the slot. -/
theorem step_ldSlot (j : Fin 3) (d : Fin 16) (X : Vec F S4x1024 .bf16) (k : Vec F S1x1x4x1024 .bf16 → P F)
    (k' : Vec F S4x1024 .bf16 → P F) (hk : ∀ v, k v = k' (shapeCast S4x1024 v shapeCasts_S1x1x4x1024_S4x1024)) :
    (owns (c : Thread nD τ) (slotM j d) fullShare X : sProp 𝕄)
      ⊢ iprop((owns (c : Thread nD τ) (slotM j d) fullShare X -∗ WP c (k' X) Q) -∗ WP c (ldSlot j d k) Q) := by
  unfold owns
  iintro ⟨%f, %hf, H⟩ Hk
  unfold ldSlot
  iapply (wp_load 𝒱₀ (c : Thread nD τ) none Set.univ (m := mRs) (S := (slotM j d).view.set) (f := f) (q := fullShare)
    (slot_set j d)) $$ H
  iintro H
  rw [hk]
  have hX : shapeCast S4x1024 (mRs.view.readAt (Elt F) (Rect.unit (s := S3x16x4x1024) ![j.val, d.val, 0, 0] S1x1x4x1024.size (slot_inb j d)).toLoadRect f)
      shapeCasts_S1x1x4x1024_S4x1024 = X := by subst hf; rfl
  rw [hX]
  iapply Hk
  iexists f; isplitr; · ipureintro; exact hf
  iexact H

end Cert.KernelIdeal.Hand
-- ==== Proof.KernelIdeal.Rows.lean ====
/- A buffer cut into the rows of the sixteen devices, the receive buffer into its slots, a reduced block into
   shares; and each put together again. -/
module

public import proofs.«01_k».proof.Proof.KernelIdeal.Ops

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {c : Dev nD}

/-! ## Lists of distances -/

theorem bs16 (Φ : Fin 16 → sProp 𝕄) : bigSep Finset.univ Φ = bigSepL rs16 Φ :=
  bigSep_eq_bigSepL_of_eq rs16 (by decide) (by decide) Φ
theorem bs16' (Φ : Fin 16 → sProp 𝕄) : bigSep Finset.univ Φ = bigSepL rs16' Φ :=
  bigSep_eq_bigSepL_of_eq rs16' (by decide) (by decide) Φ
theorem bs15 (Φ : Fin 15 → sProp 𝕄) : bigSep Finset.univ Φ = bigSepL rs15 Φ :=
  bigSep_eq_bigSepL_of_eq rs15 (by decide) (by decide) Φ
/-- The distances other than zero are the successors. -/
theorem bs_erase (Φ : Fin 16 → sProp 𝕄) : bigSep (Finset.univ.erase 0) Φ = bigSep Finset.univ fun r : Fin 15 => Φ (up r) := by
  rw [bs15, bigSep_eq_bigSepL_of_eq (rs15.map up) (by decide) (by decide) Φ]
  rfl
/-- All distances are zero and the successors. -/
theorem bs_succ (Φ : Fin 16 → sProp 𝕄) : bigSep Finset.univ Φ = iprop(Φ 0 ∗ bigSep Finset.univ fun r : Fin 15 => Φ (up r)) := by
  rw [bigSep_univ_at Φ 0, bs_erase]

/-- The devices by distance ahead of one, and by distance behind. -/
def fwdE (c : Dev nD) : Fin 16 ≃ Dev nD where
  toFun d := fwd c d
  invFun b := ⟨(b.val + (16 - c.val)) % 16, Nat.mod_lt _ (by decide)⟩
  left_inv d := by
    have := c.isLt; change c.val < 16 at this
    apply Fin.ext; simp only [fwd]; omega
  right_inv b := by
    have := c.isLt; change c.val < 16 at this
    have := b.isLt; change b.val < 16 at this
    apply Fin.ext; simp only [fwd]; omega
def bwdE (c : Dev nD) : Fin 16 ≃ Dev nD where
  toFun d := bwd c d
  invFun b := ⟨(c.val + (16 - b.val)) % 16, Nat.mod_lt _ (by decide)⟩
  left_inv d := by
    have := c.isLt; change c.val < 16 at this
    apply Fin.ext; simp only [bwd]; omega
  right_inv b := by
    have := c.isLt; change c.val < 16 at this
    have := b.isLt; change b.val < 16 at this
    apply Fin.ext; simp only [bwd]; omega
/-- The opposite distance as a permutation. -/
def oppE : Fin 16 ≃ Fin 16 := ⟨opp, opp, opp_opp, opp_opp⟩

theorem bs_fwd (c : Dev nD) (Φ : Dev nD → sProp 𝕄) : bigSep Finset.univ Φ = bigSep Finset.univ fun d : Fin 16 => Φ (fwd c d) :=
  bigSep_univ_equiv (fwdE c) Φ
theorem bs_bwd (c : Dev nD) (Φ : Dev nD → sProp 𝕄) : bigSep Finset.univ Φ = bigSep Finset.univ fun d : Fin 16 => Φ (bwd c d) :=
  bigSep_univ_equiv (bwdE c) Φ

/-! ## Cutting a view -/

section Blocks
variable {ℓ : Loc nD τ sig} {B : Type} [Fintype B] [DecidableEq B] (I : B → Finset (Idx ℓ)) (S : Finset (Idx ℓ))
  (hd : ∀ b b', b ≠ b' → Disjoint (I b) (I b')) (hS : ∀ i, i ∈ S ↔ ∃ b, i ∈ I b)

include hS in
theorem blocks_union : Finset.univ.biUnion I = S :=
  Finset.ext fun i => ⟨fun h => (hS i).mpr (by obtain ⟨b, -, hb⟩ := Finset.mem_biUnion.mp h; exact ⟨b, hb⟩),
    fun h => by obtain ⟨b, hb⟩ := (hS i).mp h; exact Finset.mem_biUnion.mpr ⟨b, Finset.mem_univ _, hb⟩⟩

include hd hS in
theorem blocks_cut (q : PosShare TreeShare) (f : Buf (Elt F) ℓ) :
    (ℓ ↦[S]{q} f : sProp 𝕄) = bigSep Finset.univ fun b => (ℓ ↦[I b]{q} f : sProp 𝕄) :=
  Ring.pointsTo_sub_blocks I hd S (blocks_union I S hS) f

include hd hS in
theorem blocks_join (fs : B → Buf (Elt F) ℓ) (f₀ : Buf (Elt F) ℓ) :
    bigSep Finset.univ (fun b => (ℓ ↦[I b]{fullShare} fs b : sProp 𝕄))
      ⊢ iprop(∃ g, ⌜∀ b, ∀ i ∈ I b, g i = fs b i⌝ ∗ (ℓ ↦[S]{fullShare} g)) := by
  refine (pointsTo_biUnion_join Finset.univ I fs f₀ (fun b _ b' _ h => hd b b' h)).trans ?_
  rw [blocks_union I S hS]
  iintro ⟨%g, %hg, H⟩
  iexists g
  isplitr; · ipureintro; exact fun b i hi => hg b (Finset.mem_univ _) i hi
  iexact H
end Blocks

section Cut
variable {s : Shape} {e : EltTy} (M : Memref sig .tc .vmem s e) {B : Type} [Fintype B] [DecidableEq B] (r : B → Rect s)
  (hd : ∀ b b', b ≠ b' → Disjoint (r b).set (r b').set) (hc : Finset.univ.biUnion (fun b => (r b).set) = Finset.univ)

include hd in
theorem cut_disj (b b' : B) (h : b ≠ b') : Disjoint ((r b).set.map M.view.emb) ((r b').set.map M.view.emb) :=
  (Finset.disjoint_map _).mpr (hd b b' h)
include hc in
theorem cut_cover (x : M.view.ty.Idx) : x ∈ M.view.set ↔ ∃ b, x ∈ (r b).set.map M.view.emb := by
  rw [← View.setOn_univ, View.setOn, Finset.mem_map]
  constructor
  · rintro ⟨y, -, rfl⟩
    obtain ⟨b, -, hb⟩ := Finset.mem_biUnion.mp (hc.symm ▸ Finset.mem_univ y : y ∈ Finset.univ.biUnion fun b => (r b).set)
    exact ⟨b, Finset.mem_map_of_mem _ hb⟩
  · rintro ⟨b, h⟩
    obtain ⟨y, -, rfl⟩ := Finset.mem_map.mp h
    exact ⟨y, Finset.mem_univ _, rfl⟩
end Cut

theorem row_disj (b b' : Fin 16) (h : b ≠ b') : Disjoint (rowR b).set (rowR b').set :=
  Ring.lead_disjoint (s := S64x1024) (0 : Fin 2) 4 (fun b : Fin 16 => ![4 * b.val, 0]) S4x1024.size row_inb (fun _ => rfl) rfl b b' h
theorem row_cover : Finset.univ.biUnion (fun b : Fin 16 => (rowR b).set) = Finset.univ :=
  Ring.lead_cover (s := S64x1024) (0 : Fin 2) 4 (fun b : Fin 16 => ![4 * b.val, 0]) S4x1024.size row_inb (fun _ => rfl)
    (fun b a ha => by fin_cases a; · exact absurd rfl ha
                      · rfl) rfl
    (fun a ha => by fin_cases a; · exact absurd rfl ha
                    · rfl) rfl

theorem row_of (i : S64x1024.Idx) : (rowR (rowOwner i)).emb (rowPlace i) = i := by
  funext a; apply Fin.ext; rw [Rect.emb_apply]
  fin_cases a
  · show 4 * ((i 0).val / 4) + 1 * ((i 0).val % 4) = (i 0).val; omega
  · show 0 + 1 * (i 1).val = (i 1).val; omega

theorem stack_of {α : Type} (X : S64x1024.Idx → α) (Y : Dev nD → S4x1024.Idx → α) (h : ∀ b, rows b X = Y b) : X = stack Y := by
  funext i
  show X i = Y (rowOwner i) (rowPlace i)
  rw [← h]; show X i = X _; rw [row_of]

theorem rowM_set {e : EltTy} (M : Memref sig .tc .vmem S64x1024 e) (b : Fin 16) : (rowM M b).view.set = (rowR b).set.map M.view.emb :=
  View.set_slice _ _

theorem rowM_cover {e : EltTy} (M : Memref sig .tc .vmem S64x1024 e) (x : M.view.ty.Idx) :
    x ∈ M.view.set ↔ ∃ b : Fin 16, x ∈ (rowM M b).view.set := by
  exact (cut_cover M _ row_cover x).trans (exists_congr fun b => by rw [rowM_set])
theorem rowM_disj {e : EltTy} (M : Memref sig .tc .vmem S64x1024 e) (b b' : Fin 16) (h : b ≠ b') :
    Disjoint (rowM M b).view.set (rowM M b').view.set := by
  rw [rowM_set, rowM_set]; exact cut_disj M _ row_disj b b' h

theorem read_row {e : EltTy} (M : Memref sig .tc .vmem S64x1024 e) (b : Fin 16) (f : Buf (Elt F) (M.view.loc (c : Thread nD τ))) :
    (rowM M b).view.read (Elt F) f = rows b (M.view.read (Elt F) f) := rfl

theorem row_owns {e : EltTy} (M : Memref sig .tc .vmem S64x1024 e) (q : PosShare TreeShare) (b : Fin 16) (f : Buf (Elt F) (M.view.loc (c : Thread nD τ))) :
    (M.view.loc (c : Thread nD τ) ↦[(rowM M b).view.set]{q} f : sProp 𝕄) ⊢ owns (c : Thread nD τ) (rowM M b) q (rows b (M.view.read (Elt F) f)) :=
  owns_intro (rowM M b) q f

theorem cut_rows {e : EltTy} (M : Memref sig .tc .vmem S64x1024 e) (q : PosShare TreeShare) (f : Buf (Elt F) (M.view.loc (c : Thread nD τ))) :
    (M.view.loc (c : Thread nD τ) ↦[M.view.set]{q} f : sProp 𝕄)
      = bigSep Finset.univ fun b : Fin 16 => (M.view.loc (c : Thread nD τ) ↦[(rowM M b).view.set]{q} f : sProp 𝕄) :=
  blocks_cut (ℓ := M.view.loc (c : Thread nD τ)) (fun b : Fin 16 => (rowM M b).view.set) M.view.set (rowM_disj M) (rowM_cover M) q f

theorem rows_split {e : EltTy} (M : Memref sig .tc .vmem S64x1024 e) (q : PosShare TreeShare) (X : S64x1024.Idx → Elt F e) :
    (owns (c : Thread nD τ) M q X : sProp 𝕄) ⊢ bigSep Finset.univ fun b : Fin 16 => owns (c : Thread nD τ) (rowM M b) q (rows b X) := by
  unfold owns
  iintro ⟨%f, %hf, H⟩
  subst hf
  iapply ((Entails.of_eq (cut_rows M q f)).trans (BI.bigSep_mono (s := Finset.univ)
    (Φ := fun b : Fin 16 => (M.view.loc (c : Thread nD τ) ↦[(rowM M b).view.set]{q} f : sProp 𝕄))
    (Ψ := fun b : Fin 16 => owns (c : Thread nD τ) (rowM M b) q (rows b (M.view.read (Elt F) f)))
    fun b _ => row_owns M q b f))
  iexact H

theorem rows_join {e : EltTy} (M : Memref sig .tc .vmem S64x1024 e) (f₀ : Buf (Elt F) (M.view.loc (c : Thread nD τ))) (Y : Dev nD → S4x1024.Idx → Elt F e) :
    (bigSep Finset.univ fun b : Fin 16 => (owns (c : Thread nD τ) (rowM M b) fullShare (Y b) : sProp 𝕄)) ⊢ owns (c : Thread nD τ) M fullShare (stack Y) := by
  haveI : Nonempty (Buf (Elt F) (M.view.loc (c : Thread nD τ))) := ⟨f₀⟩
  unfold owns
  refine (bigSep_exists_pi Finset.univ fun (b : Fin 16) (f : Buf (Elt F) (M.view.loc (c : Thread nD τ))) =>
    iprop(⌜(rowM M b).view.read (Elt F) f = Y b⌝ ∗ (M.view.loc (c : Thread nD τ) ↦[(rowM M b).view.set]{fullShare} f : sProp 𝕄))).trans ?_
  iintro ⟨%fs, H⟩
  ihave H := (bigSep_pure_sep Finset.univ (fun b : Fin 16 => (rowM M b).view.read (Elt F) (fs b) = Y b)
    fun b => (M.view.loc (c : Thread nD τ) ↦[(rowM M b).view.set]{fullShare} fs b : sProp 𝕄)) $$ H
  icases H with ⟨%hY, H⟩
  ihave H := (blocks_join (ℓ := M.view.loc (c : Thread nD τ)) (fun b : Fin 16 => (rowM M b).view.set) M.view.set (rowM_disj M) (rowM_cover M) fs f₀) $$ H
  icases H with ⟨%g, %hg, H⟩
  iexists g
  isplitr
  · ipureintro
    apply stack_of
    intro b
    rw [← hY b (Finset.mem_univ _)]
    funext i
    exact congrFun (View.read_congr (v := (rowM M b).view) (Val := Elt F) fun j hj => hg b j hj) i
  · iexact H

theorem rows_join_any {e : EltTy} (M : Memref sig .tc .vmem S64x1024 e) (f₀ : Buf (Elt F) (M.view.loc (c : Thread nD τ))) :
    (bigSep Finset.univ fun b : Fin 16 => (iprop(∃ X, owns (c : Thread nD τ) (rowM M b) fullShare X) : sProp 𝕄)) ⊢ iprop(∃ X, owns (c : Thread nD τ) M fullShare X) := by
  haveI : Nonempty (S4x1024.Idx → Elt F e) := ⟨(rowM M 0).view.read (Elt F) f₀⟩
  refine (bigSep_exists_pi Finset.univ fun (b : Fin 16) (X : S4x1024.Idx → Elt F e) => (owns (c : Thread nD τ) (rowM M b) fullShare X : sProp 𝕄)).trans ?_
  iintro ⟨%Y, H⟩
  iexists (stack Y)
  iapply (rows_join M f₀ Y); iexact H

/-! ## The slots of the receive buffer -/

abbrev slotR (x : Fin 3 × Fin 16) : Rect S3x16x4x1024 :=
  Rect.unit (s := S3x16x4x1024) ![x.1.val, x.2.val, 0, 0] S1x1x4x1024.size (slot_inb x.1 x.2)

theorem slot_disj (x y : Fin 3 × Fin 16) (h : x ≠ y) : Disjoint (slotR x).set (slotR y).set := by
  rw [Finset.disjoint_left]
  intro i hi hi'
  have h0 := (Rect.mem_set_unit.mp hi) 0
  have h1 := (Rect.mem_set_unit.mp hi) 1
  have g0 := (Rect.mem_set_unit.mp hi') 0
  have g1 := (Rect.mem_set_unit.mp hi') 1
  change x.1.val ≤ (i 0).val ∧ (i 0).val < x.1.val + 1 at h0
  change x.2.val ≤ (i 1).val ∧ (i 1).val < x.2.val + 1 at h1
  change y.1.val ≤ (i 0).val ∧ (i 0).val < y.1.val + 1 at g0
  change y.2.val ≤ (i 1).val ∧ (i 1).val < y.2.val + 1 at g1
  exact h (Prod.ext (Fin.ext (by omega)) (Fin.ext (by omega)))

theorem slot_cover : Finset.univ.biUnion (fun x : Fin 3 × Fin 16 => (slotR x).set) = Finset.univ := by
  ext i
  simp only [Finset.mem_biUnion, Finset.mem_univ, true_and, iff_true]
  refine ⟨(⟨(i 0).val, (i 0).isLt⟩, ⟨(i 1).val, (i 1).isLt⟩), Rect.mem_set_unit.mpr fun a => ?_⟩
  fin_cases a
  · exact ⟨Nat.le_refl _, Nat.lt_succ_self _⟩
  · exact ⟨Nat.le_refl _, Nat.lt_succ_self _⟩
  · refine ⟨Nat.zero_le _, ?_⟩; have := (i 2).isLt; show (i 2).val < 0 + 4; change (i 2).val < 4 at this; omega
  · refine ⟨Nat.zero_le _, ?_⟩; have := (i 3).isLt; show (i 3).val < 0 + 1024; change (i 3).val < 1024 at this; omega

theorem slotM_set (x : Fin 3 × Fin 16) : (slotM x.1 x.2).view.set = (slotR x).set.map mRs.view.emb :=
  (View.set_reshape _ _).trans (View.set_slice _ _)

theorem slotM_disj (x y : Fin 3 × Fin 16) (h : x ≠ y) : Disjoint (slotM x.1 x.2).view.set (slotM y.1 y.2).view.set := by
  rw [slotM_set, slotM_set]; exact cut_disj mRs _ slot_disj x y h
theorem slotM_cover (i : mRs.view.ty.Idx) : i ∈ mRs.view.set ↔ ∃ x : Fin 3 × Fin 16, i ∈ (slotM x.1 x.2).view.set := by
  exact (cut_cover mRs _ slot_cover i).trans (exists_congr fun x => by rw [slotM_set])

/-- Whatever elements a slot is written as holding. -/
abbrev slotPt (c : Dev nD) (x : Fin 3 × Fin 16) (f : Buf (Elt F) (mRs.view.loc (c : Thread nD τ))) : sProp 𝕄 :=
  mRs.view.loc (c : Thread nD τ) ↦[(slotM x.1 x.2).view.set]{fullShare} f

theorem slotPt_any (x : Fin 3 × Fin 16) (f : Buf (Elt F) (mRs.view.loc (c : Thread nD τ))) : slotPt c x f ⊢ slotAny (F := F) c x.1 x.2 :=
  owns_any (slotM x.1 x.2) fullShare f
theorem any_slotPt (x : Fin 3 × Fin 16) : slotAny (F := F) c x.1 x.2 ⊢ iprop(∃ f, slotPt c x f) := by
  unfold slotAny owns
  iintro ⟨%X, %f, -, H⟩
  iexists f
  iexact H

theorem slots_split : (iprop(∃ X, owns (c : Thread nD τ) mRs fullShare X) : sProp 𝕄)
    ⊢ bigSep Finset.univ fun x : Fin 3 × Fin 16 => slotAny (F := F) c x.1 x.2 := by
  unfold owns
  iintro ⟨%X, %f, -, H⟩
  iapply ((Entails.of_eq (blocks_cut (ℓ := mRs.view.loc (c : Thread nD τ)) (fun x : Fin 3 × Fin 16 => (slotM x.1 x.2).view.set) mRs.view.set slotM_disj slotM_cover fullShare f)).trans
    (BI.bigSep_mono (s := Finset.univ) (Φ := fun x : Fin 3 × Fin 16 => slotPt c x f) (Ψ := fun x : Fin 3 × Fin 16 => slotAny (F := F) c x.1 x.2)
      fun x _ => slotPt_any x f))
  iexact H

theorem slots_join (f₀ : Buf (Elt F) (mRs.view.loc (c : Thread nD τ))) :
    (bigSep Finset.univ fun x : Fin 3 × Fin 16 => slotAny (F := F) c x.1 x.2) ⊢ (iprop(∃ X, owns (c : Thread nD τ) mRs fullShare X) : sProp 𝕄) := by
  haveI : Nonempty (Buf (Elt F) (mRs.view.loc (c : Thread nD τ))) := ⟨f₀⟩
  refine (BI.bigSep_mono (s := Finset.univ) (Φ := fun x : Fin 3 × Fin 16 => slotAny (F := F) c x.1 x.2)
    (Ψ := fun x : Fin 3 × Fin 16 => iprop(∃ f, slotPt (F := F) c x f)) fun x _ => any_slotPt x).trans ?_
  refine (bigSep_exists_pi Finset.univ fun (x : Fin 3 × Fin 16) (f : Buf (Elt F) (mRs.view.loc (c : Thread nD τ))) => slotPt (F := F) c x f).trans ?_
  iintro ⟨%fs, H⟩
  ihave H := (blocks_join (ℓ := mRs.view.loc (c : Thread nD τ)) (fun x : Fin 3 × Fin 16 => (slotM x.1 x.2).view.set) mRs.view.set slotM_disj slotM_cover fs f₀) $$ H
  icases H with ⟨%g, -, H⟩
  iapply (owns_any mRs fullShare g); iexact H

/-! ## The reduced block in shares -/

theorem red_split (X : FVec F S4x1024 .bf16) :
    (owns (c : Thread nD τ) mRed fullShare X : sProp 𝕄) = bigSep Finset.univ fun d : Fin 16 => redPiece c d X := by
  have h : (owns (c : Thread nD τ) mRed fullShare X : sProp 𝕄) = (mRed.view.loc (c : Thread nD τ) ↦[mRed.view.set]{fullShare} X) := by
    unfold owns
    refine BI.equiv_iff.mp ⟨?_, ?_⟩
    · show iprop(∃ f, ⌜mRed.view.read (Elt F) f = X⌝ ∗ (mRed.view.loc (c : Thread nD τ) ↦[mRed.view.set]{fullShare} f)) ⊢ _
      iintro ⟨%f, %hf, H⟩
      have hf' : f = X := hf
      subst hf'; iexact H
    · show _ ⊢ iprop(∃ f, ⌜mRed.view.read (Elt F) f = X⌝ ∗ (mRed.view.loc (c : Thread nD τ) ↦[mRed.view.set]{fullShare} f))
      iintro H; iexists X
      isplitr; · ipureintro; rfl
      iexact H
  rw [h]
  exact pointsTo_piecesOf _ _ (by decide) _

end Cert.KernelIdeal.Hand
-- ==== Proof.KernelIdeal.Layer.lean ====
/- One layer of the kernel: the partial product, the exchange, and the waits for its sends. -/
module

public import proofs.«01_k».proof.Proof.KernelIdeal.Rows
public import Idealize.ShloMosaic.Lib.Pipeline.BigSepL

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ) {c : Dev nD} {Q : PUnit.{1} → sProp (MT nD τ sig Unit (Elt F) ℕ UU ℕ)}

/-! ## Families apart and together -/

section Apart
variable {I : Type} (S : Finset I) (A B C D E : I → sProp (MT nD τ sig Unit (Elt F) ℕ UU ℕ))
theorem bs_mono (h : ∀ i, A i ⊢ B i) : bigSep S A ⊢ bigSep S B := BI.bigSep_mono fun i _ => h i
theorem out2 : (bigSep S fun i => iprop(A i ∗ B i)) ⊢ iprop(bigSep S A ∗ bigSep S B) := Entails.of_eq (bigSep_sep' S A B)
theorem out3 : (bigSep S fun i => iprop(A i ∗ B i ∗ C i)) ⊢ iprop(bigSep S A ∗ bigSep S B ∗ bigSep S C) :=
  (out2 S A _).trans (sep_mono_right (out2 S B C))
theorem in2 : iprop(bigSep S A ∗ bigSep S B) ⊢ (bigSep S fun i => iprop(A i ∗ B i)) := Entails.of_eq (bigSep_sep' S A B).symm
theorem in3 : iprop(bigSep S A ∗ bigSep S B ∗ bigSep S C) ⊢ (bigSep S fun i => iprop(A i ∗ B i ∗ C i)) :=
  (sep_mono_right (in2 S B C)).trans (in2 S A _)
theorem in4 : iprop(bigSep S A ∗ bigSep S B ∗ bigSep S C ∗ bigSep S D) ⊢ (bigSep S fun i => iprop(A i ∗ B i ∗ C i ∗ D i)) :=
  (sep_mono_right (in3 S B C D)).trans (in2 S A _)
theorem in5 : iprop(bigSep S A ∗ bigSep S B ∗ bigSep S C ∗ bigSep S D ∗ bigSep S E) ⊢ (bigSep S fun i => iprop(A i ∗ B i ∗ C i ∗ D i ∗ E i)) :=
  (sep_mono_right (in4 S B C D E)).trans (in2 S A _)
end Apart

/-! ## Loops -/

theorem loop_step {α : Type} (op : α → P F → P F) (R : sProp (MT nD τ sig Unit (Elt F) ℕ UU ℕ)) [BI.Persistent R]
    (A B : α → sProp (MT nD τ sig Unit (Elt F) ℕ UU ℕ)) (St : List α → sProp (MT nD τ sig Unit (Elt F) ℕ UU ℕ))
    (h : ∀ a l k, iprop(R ∗ A a ∗ St (a :: l)) ⊢ iprop(((B a ∗ St l) -∗ WP c k Q) -∗ WP c (op a k) Q)) :
    ∀ l k, iprop(R ∗ bigSepL l A ∗ St l) ⊢ iprop(((bigSepL l B ∗ St []) -∗ WP c k Q) -∗ WP c (loopP op l k) Q)
  | [], k => by
    iintro ⟨-, -, HS⟩ Hk
    iapply Hk
    isplitr; · rw [bigSepL_nil]; iempintro
    iexact HS
  | a :: l, k => by
    rw [bigSepL_cons', bigSepL_cons']
    iintro ⟨#HR, ⟨HA, HL⟩, HS⟩ Hk
    iapply (h a l (loopP op l k)) $$ [HA HS]
    · isplitr; · iexact HR
      isplitl [HA] <;> iassumption
    iintro ⟨HB, HS⟩
    iapply (loop_step op R A B St h l k) $$ [HL HS]
    · isplitr; · iexact HR
      isplitl [HL] <;> iassumption
    iintro ⟨HBs, HS⟩
    iapply Hk
    isplitr [HS]
    · isplitl [HB] <;> iassumption
    iexact HS

/-- A loop of operations each paying one of the dues. -/
theorem loop_pay {α : Type} (op : α → P F → P F) (due : α → Due) (A B : α → sProp (MT nD τ sig Unit (Elt F) ℕ UU ℕ)) (rest : List Due)
    (h : ∀ a l k, iprop(recs m ρ K ∗ A a ∗ ow c (due a :: l)) ⊢ iprop(((B a ∗ ow c l) -∗ WP c k Q) -∗ WP c (op a k) Q)) (l : List α) (k : P F) :
    iprop(recs m ρ K ∗ bigSepL l A ∗ ow c (l.map due ++ rest)) ⊢ iprop(((bigSepL l B ∗ ow c rest) -∗ WP c k Q) -∗ WP c (loopP op l k) Q) :=
  loop_step op (recs m ρ K) A B (fun l => ow c (l.map due ++ rest)) (fun a l k => h a _ k) l k

/-- A loop of waits, what is owed unchanged. -/
theorem loop_wait {α : Type} (op : α → P F → P F) (A B : α → sProp (MT nD τ sig Unit (Elt F) ℕ UU ℕ)) (rest : List Due)
    (h : ∀ a k, iprop(recs m ρ K ∗ A a ∗ ow c rest) ⊢ iprop(((B a ∗ ow c rest) -∗ WP c k Q) -∗ WP c (op a k) Q)) (l : List α) (k : P F) :
    iprop(recs m ρ K ∗ bigSepL l A ∗ ow c rest) ⊢ iprop(((bigSepL l B ∗ ow c rest) -∗ WP c k Q) -∗ WP c (loopP op l k) Q) :=
  loop_step op (recs m ρ K) A B (fun _ => ow c rest) (fun a _ k => h a k) l k

/-- The receive loop of layer `j`: the slots of the listed distances arrive and are added up. -/
theorem loop_recv (j : Fin 3) (rest : List Due) (hl : Above (2 + 2 * j.val) rest) (k : FVec F S4x1024 .f32 → P F) :
    ∀ (l : List (Fin 15)) (a : FVec F S4x1024 .f32),
      iprop(recs m ρ K ∗ bigSepL l (fun r => iprop(crd c (kRsR j (up r)) N ∗ pos c (kRsR j (up r)) 0)) ∗ ow c rest)
        ⊢ iprop(((bigSepL l (fun r => iprop(pos c (kRsR j (up r)) 1 ∗ slotAny c j (up r) ∗ xgAny (bwd c (up r)) c)) ∗ ow c rest)
            -∗ WP c (k (l.foldl (fun a r => accR a (rows c (pbfC m ρ j (bwd c (up r))))) a)) Q) -∗ WP c (recvP c j l a k) Q)
  | [], a => by
    iintro ⟨-, -, HS⟩ Hk
    iapply Hk
    isplitr; · rw [bigSepL_nil]; iempintro
    iexact HS
  | r :: l, a => by
    rw [bigSepL_cons', bigSepL_cons']
    iintro ⟨#HR, ⟨HA, HL⟩, HS⟩ Hk
    iapply (step_rsRecv m ρ K j r rest hl _) $$ [HA HS]
    · isplitr; · iexact HR
      isplitl [HA] <;> iassumption
    iintro ⟨⟨Hp, -, Hs, Hx⟩, HS⟩
    iapply (step_ldSlot j (up r) (rows c (pbfC m ρ j (bwd c (up r)))) _ (fun v => recvP c j l (accR a v) k) (fun v => rfl)) $$ Hs
    iintro Hs
    iapply (loop_recv j rest hl k l _) $$ [HL HS]
    · isplitr; · iexact HR
      isplitl [HL] <;> iassumption
    iintro ⟨HBs, HS⟩
    iapply Hk
    isplitr [HS]
    · isplitr [HBs]
      · isplitl [Hp]; · iexact Hp
        isplitl [Hs]; · iexists _; iexact Hs
        iexact Hx
      iexact HBs
    iexact HS

/-! ## The partial product -/

/-- A buffer at any contents. -/
abbrev anyOf {s : Shape} {e : EltTy} (c : Dev nD) (M : Memref sig .tc .vmem s e) : sProp (MT nD τ sig Unit (Elt F) ℕ UU ℕ) :=
  iprop(∃ X, owns (c : Thread nD τ) M fullShare X)

theorem step_compute (x : FVec F S64x1024 .f32) (mi : Memref sig .tc .vmem S1024x2048 .f32) (mo : Memref sig .tc .vmem S2048x1024 .f32)
    (w : Vec F S1024x2048 .f32) (u : Vec F S2048x1024 .f32) (k : P F) :
    iprop(owns (c : Thread nD τ) mi fullShare w ∗ owns (c : Thread nD τ) mo fullShare u ∗ anyOf c mPart ∗ anyOf c mPbf)
      ⊢ iprop(((owns (c : Thread nD τ) mi fullShare w ∗ owns (c : Thread nD τ) mo fullShare u ∗ owns (c : Thread nD τ) mPart fullShare (partL x w u)
            ∗ owns (c : Thread nD τ) mPbf fullShare (truncf .bf16 (partL x w u) bitsLt_bf16_f32)) -∗ WP c k Q)
          -∗ WP c (computeP x mi mo k) Q) := by
  unfold computeP
  iintro ⟨Hi, Ho, ⟨%X, Hp⟩, ⟨%Y, Hb⟩⟩ Hk
  iapply (step_ldIn mi 0 fullShare w) $$ Hi; iintro Hi
  iapply (step_ldOut mo 0 fullShare u) $$ Ho; iintro Ho
  iapply (step_ldIn mi 1 fullShare w) $$ Hi; iintro Hi
  iapply (step_ldOut mo 1 fullShare u) $$ Ho; iintro Ho
  iapply (step_ldIn mi 2 fullShare w) $$ Hi; iintro Hi
  iapply (step_ldOut mo 2 fullShare u) $$ Ho; iintro Ho
  iapply (step_ldIn mi 3 fullShare w) $$ Hi; iintro Hi
  iapply (step_ldOut mo 3 fullShare u) $$ Ho; iintro Ho
  iapply (step_ldS mPart fullShare X) $$ Hp; iintro Hp
  iapply (step_stS mPart) $$ [Hp]
  · iexists X; iexact Hp
  iintro Hp
  iapply (step_ldS mPbf fullShare Y) $$ Hb; iintro Hb
  iapply step_stPbf $$ [Hb]
  · iexists Y; iexact Hb
  iintro Hb
  rw [shapeCast_self, shapeCast_self]
  iapply Hk
  isplitl [Hi]; · iexact Hi
  isplitl [Ho]; · iexact Ho
  isplitl [Hp]; · iexact Hp
  iexact Hb

/-! ## The exchange -/

/-- The units a device pays in layer `j`. -/
def layToks (c : Dev nD) (j : Fin 3) : sProp (MT nD τ sig Unit (Elt F) ℕ UU ℕ) :=
  iprop((bigSep Finset.univ fun r : Fin 15 => iprop(tok c (kRsS j (up r)) 0 0 ∗ tok (fwd c (up r)) (kRsR j (up r)) 0 0))
    ∗ (bigSep Finset.univ fun d : Fin 16 => iprop(tok c (kAgS j d) 0 0 ∗ tok (fwd c d) (kAgR j d) 0 0)) ∗ tok c kLoc j.val 0)
/-- The waits a device makes on its receive cells in layer `j`. -/
def layRecv (c : Dev nD) (j : Fin 3) : sProp (MT nD τ sig Unit (Elt F) ℕ UU ℕ) :=
  iprop((bigSep Finset.univ fun r : Fin 15 => iprop(crd c (kRsR j (up r)) N ∗ pos c (kRsR j (up r)) 0))
    ∗ (bigSep Finset.univ fun d : Fin 16 => iprop(crd c (kAgR j d) N ∗ pos c (kAgR j d) 0)))
/-- The peers' slots a device writes in layer `j`. -/
def laySlots (c : Dev nD) (j : Fin 3) : sProp (MT nD τ sig Unit (Elt F) ℕ UU ℕ) :=
  bigSep Finset.univ fun r : Fin 15 => slotAny (fwd c (up r)) j (up r)
/-- The local copy's position. -/
def locAt (c : Dev nD) (n : ℕ) : sProp (MT nD τ sig Unit (Elt F) ℕ UU ℕ) := iprop(pos c kLoc n ∗ reached ER (kcell (c, kLoc)) n)
/-- What is left of a layer's waits and slots after its exchange. -/
def layDone (c : Dev nD) (j : Fin 3) : sProp (MT nD τ sig Unit (Elt F) ℕ UU ℕ) :=
  iprop((bigSep Finset.univ fun r : Fin 15 => pos c (kRsR j (up r)) 1) ∗ (bigSep Finset.univ fun r : Fin 15 => slotAny c j (up r))
    ∗ bigSep Finset.univ fun d : Fin 16 => pos c (kAgR j d) 1)
/-- The sends of a layer still to be waited for. -/
def laySent (c : Dev nD) (j : Fin 3) : sProp (MT nD τ sig Unit (Elt F) ℕ UU ℕ) :=
  iprop(pbfAny c (fwd c 0) ∗ (bigSep Finset.univ fun r : Fin 15 => crd c (kRsS j (up r)) N) ∗ bigSep Finset.univ fun d : Fin 16 => crd c (kAgS j d) N)
/-- The send cells' positions of a layer, before and after the waits. -/
def laySend (c : Dev nD) (j : Fin 3) (n : ℕ) : sProp (MT nD τ sig Unit (Elt F) ℕ UU ℕ) :=
  iprop((bigSep Finset.univ fun r : Fin 15 => pos c (kRsS j (up r)) n) ∗ bigSep Finset.univ fun d : Fin 16 => pos c (kAgS j d) n)

theorem row_any {e : EltTy} (M : Memref sig .tc .vmem S64x1024 e) (b : Fin 16) (X : S4x1024.Idx → Elt F e) :
    (owns (c : Thread nD τ) (rowM M b) fullShare X : sProp (MT nD τ sig Unit (Elt F) ℕ UU ℕ)) ⊢ iprop(∃ X, owns (c : Thread nD τ) (rowM M b) fullShare X) := by
  iintro H; iexists X; iexact H

theorem any_rows_fwd {e : EltTy} (M : Memref sig .tc .vmem S64x1024 e) :
    anyOf (F := F) c M ⊢ iprop((∃ X, owns (c : Thread nD τ) (rowM M (fwd c 0)) fullShare X)
      ∗ bigSep Finset.univ fun r : Fin 15 => iprop(∃ X, owns (c : Thread nD τ) (rowM M (fwd c (up r))) fullShare X)) := by
  refine BIBase.Entails.trans ?_ (Entails.of_eq ((bs_fwd c fun b => iprop(∃ X, owns (c : Thread nD τ) (rowM M b) fullShare X)).trans (bs_succ _)))
  iintro ⟨%X, H⟩
  ihave H := (rows_split M fullShare X) $$ H
  iapply (bs_mono Finset.univ (fun b : Fin 16 => owns (c : Thread nD τ) (rowM M b) fullShare (rows b X))
    (fun b : Fin 16 => iprop(∃ X, owns (c : Thread nD τ) (rowM M b) fullShare X))
    fun b => row_any M b (rows b X))
  iexact H

theorem rows_fwd {e : EltTy} (M : Memref sig .tc .vmem S64x1024 e) (X : S64x1024.Idx → Elt F e) :
    (owns (c : Thread nD τ) M fullShare X : sProp (MT nD τ sig Unit (Elt F) ℕ UU ℕ)) ⊢ iprop(owns (c : Thread nD τ) (rowM M (fwd c 0)) fullShare (rows (fwd c 0) X)
      ∗ bigSep Finset.univ fun r : Fin 15 => owns (c : Thread nD τ) (rowM M (fwd c (up r))) fullShare (rows (fwd c (up r)) X)) :=
  (rows_split M fullShare X).trans (Entails.of_eq
    ((bs_fwd c fun b => owns (c : Thread nD τ) (rowM M b) fullShare (rows b X)).trans (bs_succ _)))

theorem fwd_rows_any {e : EltTy} (M : Memref sig .tc .vmem S64x1024 e) (f₀ : Buf (Elt F) (M.view.loc (c : Thread nD τ))) :
    iprop((∃ X, owns (c : Thread nD τ) (rowM M (fwd c 0)) fullShare X)
      ∗ bigSep Finset.univ fun r : Fin 15 => iprop(∃ X, owns (c : Thread nD τ) (rowM M (fwd c (up r))) fullShare X)) ⊢ anyOf (F := F) c M :=
  (Entails.of_eq ((bs_fwd c fun b => iprop(∃ X, owns (c : Thread nD τ) (rowM M b) fullShare X)).trans (bs_succ _)).symm).trans (rows_join_any M f₀)

theorem xg_for_ag : iprop(xgAny (F := F) c (fwd c 0) ∗ bigSep Finset.univ fun r : Fin 15 => xgAny (F := F) (bwd c (up r)) c)
    ⊢ bigSep Finset.univ fun d : Fin 16 => xgAny (F := F) (fwd c d) c := by
  rw [bigSep_univ_equiv oppE fun d : Fin 16 => xgAny (F := F) (fwd c d) c]
  rw [bs_succ fun d : Fin 16 => xgAny (F := F) (fwd c (oppE d)) c]
  have h : ∀ d, fwd c (oppE d) = bwd c d := fwd_opp c
  simp only [h, fwd_zero, bwd_zero]
  exact Entails.refl _

theorem fold_red (j : Fin 3) (h : S4x1024.ShapeCasts S4x1024) :
    shapeCast S4x1024 (truncf .bf16 (rs15.foldl (fun a r => accR a (rows c (pbfC m ρ j (bwd c (up r))))) (rows c (partC m ρ j c))) bitsLt_bf16_f32) h
      = redC m ρ j c := (shapeCast_self _ h).trans rfl

theorem step_exch (j : Fin 3) (l : List Due) (hl : Above (3 + 2 * j.val) l) (k : P F) :
    iprop(recs m ρ K ∗ layToks c j ∗ layRecv c j ∗ laySlots c j ∗ locAt c j.val ∗ owns (c : Thread nD τ) mPart fullShare (partC m ρ j c)
        ∗ owns (c : Thread nD τ) mPbf fullShare (pbfC m ρ j c) ∗ anyOf c mOwn ∗ anyOf c mRed ∗ anyOf c mXg ∗ ow c (dLayer j c l))
      ⊢ iprop(((layDone c j ∗ laySent c j ∗ locAt c (j.val + 1) ∗ anyOf c mPart ∗ anyOf c mOwn ∗ owns (c : Thread nD τ) mXg fullShare (xgC m ρ j) ∗ ow c l)
          -∗ WP c k Q) -∗ WP c (exchP c j k) Q) := by
  unfold exchP layToks layRecv laySlots locAt layDone laySent
  iintro ⟨#HR, ⟨HtR, HtA, HtL⟩, ⟨HwR, HwA⟩, Hsl, ⟨HpL, #HrL⟩, Hpart, Hpbf, Hown, Hred, Hxg, HO⟩ Hk
  ihave Hpbf := (rows_fwd mPbf (pbfC m ρ j c)) $$ Hpbf
  icases Hpbf with ⟨Hpbf0, Hpbf⟩
  ihave Hxg := (any_rows_fwd mXg) $$ Hxg
  icases Hxg with ⟨Hxg0, Hxg⟩
  -- the reduce-scatter's sends
  iapply (loop_pay m ρ K (opRsSend F c j) (dRs j c) _ _ (rs16'.map (dAg j c) ++ l) (fun r l k => step_rsSend m ρ K j r l k) rs15) $$ [HtR Hpbf Hsl Hxg HO]
  · isplitr; · iexact HR
    isplitr [HO]
    · rw [← bs15]
      ihave HtR := (out2 _ _ _) $$ HtR
      icases HtR with ⟨H1, H2⟩
      iapply (in5 _ _ _ _ _ _)
      isplitl [H1]; · iexact H1
      isplitl [H2]; · iexact H2
      isplitl [Hpbf]; · iexact Hpbf
      isplitl [Hsl]; · iexact Hsl
      iexact Hxg
    iexact HO
  rw [← bs15]
  iintro ⟨HcS, HO⟩
  -- the local copy
  ihave Hpart := (rows_split mPart fullShare (partC m ρ j c)) $$ Hpart
  ihave Hpart := (Entails.of_eq (bigSep_univ_at (fun b : Fin 16 => owns (c : Thread nD τ) (rowM mPart b) fullShare (rows b (partC m ρ j c))) c)) $$ Hpart
  icases Hpart with ⟨Hpc, Hpo⟩
  iapply (step_copy m ρ K j) $$ [HtL Hpc Hown]
  · isplitr; · iexact HR
    isplitl [HtL]; · iexact HtL
    isplitr; · iexact HrL
    isplitl [Hpc] <;> iassumption
  iintro HcL
  have h0 : Above 0 (rs16'.map (dAg j c) ++ l) := above_append (above_dAg j c 0 (by omega) _) (above_mono (Nat.zero_le _) hl)
  have h2 : Above (2 + 2 * j.val) (rs16'.map (dAg j c) ++ l) := above_append (above_dAg j c _ (by omega) _) (above_mono (by omega) hl)
  iapply (step_copied m ρ K j _ h0) $$ [HcL HpL HO]
  · isplitr; · iexact HR
    isplitr [HO]
    · isplitl [HcL] <;> iassumption
    iexact HO
  iintro ⟨⟨HpL, HrL', Hown, Hpc⟩, HO⟩
  iapply (step_ldR mOwn fullShare (rows c (partC m ρ j c))) $$ Hown
  iintro Hown
  -- the receives
  iapply (loop_recv m ρ K j _ h2 _ rs15 _) $$ [HwR HO]
  · isplitr; · iexact HR
    isplitl [HwR]; · rw [← bs15]; iexact HwR
    iexact HO
  rw [← bs15]
  iintro ⟨HB, HO⟩
  ihave HB := (out3 _ _ _ _) $$ HB
  icases HB with ⟨HpR, Hslots, Hxp⟩
  icases Hred with ⟨%Y, Hred⟩
  iapply (step_ldR mRed fullShare Y) $$ Hred
  iintro Hred
  iapply step_stRed $$ [Hred]
  · iexists Y; iexact Hred
  iintro Hred
  ihave Hred := (Entails.of_eq ((congrArg (owns (c : Thread nD τ) mRed fullShare) (fold_red m ρ j _)).trans (red_split (redC m ρ j c)))) $$ Hred
  -- the all-gather's sends
  ihave Hxp := (xg_for_ag (F := F) (c := c)) $$ [Hxg0 Hxp]
  · isplitl [Hxg0] <;> iassumption
  iapply (loop_pay m ρ K (opAgSend F c j) (dAg j c) _ _ l (fun d l k => step_agSend m ρ K j d l k) rs16') $$ [HtA Hred Hxp HO]
  · isplitr; · iexact HR
    isplitr [HO]
    · rw [← bs16']
      ihave HtA := (out2 _ _ _) $$ HtA
      icases HtA with ⟨H1, H2⟩
      iapply (in4 _ _ _ _ _)
      isplitl [H1]; · iexact H1
      isplitl [H2]; · iexact H2
      isplitl [Hred] <;> iassumption
    iexact HO
  rw [← bs16']
  iintro ⟨HcA, HO⟩
  -- the gathered rows
  iapply (loop_wait m ρ K (opAgRecv F c j) _ _ l (fun d k => step_agRecv m ρ K j d l hl k) rs16) $$ [HwA HO]
  · isplitr; · iexact HR
    isplitl [HwA]; · rw [← bs16]; iexact HwA
    iexact HO
  rw [← bs16]
  iintro ⟨HB, HO⟩
  ihave HB := (out3 _ _ _ _) $$ HB
  icases HB with ⟨HpA, -, Hg⟩
  ihave Hg := ((Entails.of_eq (bs_bwd c fun b => owns (c : Thread nD τ) (rowM mXg b) fullShare (redC m ρ j b)).symm).trans
    (rows_join mXg (m _) (redC m ρ j))) $$ Hg
  iapply Hk
  isplitl [HpR Hslots HpA]
  · isplitl [HpR]; · iexact HpR
    isplitl [Hslots] <;> iassumption
  isplitl [Hpbf0 HcS HcA]
  · isplitl [Hpbf0]; · iexists _; iexact Hpbf0
    isplitl [HcS] <;> iassumption
  isplitl [HpL HrL']
  · isplitl [HpL] <;> iassumption
  isplitl [Hpc Hpo]
  · iapply (rows_join_any mPart (m _))
    iapply (Entails.of_eq (bigSep_univ_at (fun b : Fin 16 => (iprop(∃ X, owns (c : Thread nD τ) (rowM mPart b) fullShare X) : sProp 𝕄)) c).symm)
    isplitl [Hpc]; · iexact Hpc
    iapply (bs_mono (Finset.univ.erase c) (fun b : Fin 16 => owns (c : Thread nD τ) (rowM mPart b) fullShare (rows b (partC m ρ j c)))
      (fun b : Fin 16 => (iprop(∃ X, owns (c : Thread nD τ) (rowM mPart b) fullShare X) : sProp 𝕄))
      fun b => row_any mPart b _)
    iexact Hpo
  isplitl [Hown]; · iexists _; iexact Hown
  isplitl [Hg]; · iexact Hg
  iexact HO

theorem step_done (j : Fin 3) (l : List Due) (hl : Above 0 l) (k : P F) :
    iprop(recs m ρ K ∗ laySent c j ∗ laySend c j 0 ∗ ow c l)
      ⊢ iprop(((laySend c j 1 ∗ anyOf c mPbf ∗ anyOf c mRed ∗ ow c l) -∗ WP c k Q) -∗ WP c (doneP c j k) Q) := by
  unfold doneP laySent laySend
  iintro ⟨#HR, ⟨Hpbf0, HcS, HcA⟩, ⟨HpS, HpA⟩, HO⟩ Hk
  iapply (loop_wait m ρ K (opRsDone F c j) _ _ l (fun r k => step_rsDone m ρ K j r l hl k) rs15) $$ [HcS HpS HO]
  · isplitr; · iexact HR
    isplitr [HO]
    · rw [← bs15]
      iapply (in2 _ _ _)
      isplitl [HcS] <;> iassumption
    iexact HO
  rw [← bs15]
  iintro ⟨HB, HO⟩
  ihave HB := (out3 _ _ _ _) $$ HB
  icases HB with ⟨HpS, -, Hpbf⟩
  iapply (loop_wait m ρ K (opAgDone F c j) _ _ l (fun d k => step_agDone m ρ K j d l hl k) rs16) $$ [HcA HpA HO]
  · isplitr; · iexact HR
    isplitr [HO]
    · rw [← bs16]
      iapply (in2 _ _ _)
      isplitl [HcA] <;> iassumption
    iexact HO
  rw [← bs16]
  iintro ⟨HB, HO⟩
  ihave HB := (out3 _ _ _ _) $$ HB
  icases HB with ⟨HpA, -, Hred⟩
  iapply Hk
  isplitl [HpS HpA]
  · isplitl [HpS] <;> iassumption
  isplitl [Hpbf0 Hpbf]
  · iapply (fwd_rows_any mPbf (m _))
    isplitl [Hpbf0] <;> iassumption
  isplitl [Hred]
  · iexists (redC m ρ j c)
    iapply (Entails.of_eq (red_split (c := c) (redC m ρ j c)).symm); iexact Hred
  iexact HO

end Cert.KernelIdeal.Hand
-- ==== Proof.KernelIdeal.Body.lean ====
/- The kernel's body on one device, from what it holds at entry to what it holds at exit. -/
module

public import proofs.«01_k».proof.Proof.KernelIdeal.Layer

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ) {c : Dev nD} {Q : PUnit.{1} → sProp (MT nD τ sig Unit (Elt F) ℕ UU ℕ)}

/-! ## Families over the cells -/

theorem bs_opt {α : Type} [Fintype α] [DecidableEq α] (Φ : Option α → sProp (MT nD τ sig Unit (Elt F) ℕ UU ℕ)) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, BI.bigSep_map]; rfl

theorem bs3 (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ
theorem bs4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

theorem bs_xfer (Φ : Fin 4 → Fin 3 → Fin 16 → sProp (MT nD τ sig Unit (Elt F) ℕ UU ℕ)) :
    (bigSep Finset.univ fun x : Fin 4 × Fin 3 × Fin 16 => Φ x.1 x.2.1 x.2.2)
      = bigSep Finset.univ fun k : Fin 3 => iprop(bigSep Finset.univ (Φ 0 k) ∗ bigSep Finset.univ (Φ 1 k) ∗ bigSep Finset.univ (Φ 2 k) ∗ bigSep Finset.univ (Φ 3 k)) := by
  rw [bigSep_univ_prod, bs4, bigSep_sep', bigSep_sep', bigSep_sep']
  simp only [bigSep_univ_prod]

/-- The two cells of a layer that no transfer uses. -/
def idle (c : Dev nD) (k : Fin 3) : sProp (MT nD τ sig Unit (Elt F) ℕ UU ℕ) := iprop(pos c (kRsS k 0) 0 ∗ pos c (kRsR k 0) 0)
/-- A layer's receive cells at a round. -/
def layGot (c : Dev nD) (k : Fin 3) (n : ℕ) : sProp (MT nD τ sig Unit (Elt F) ℕ UU ℕ) :=
  iprop((bigSep Finset.univ fun r : Fin 15 => pos c (kRsR k (up r)) n) ∗ bigSep Finset.univ fun d : Fin 16 => pos c (kAgR k d) n)
/-- A layer's credits. -/
def layCrd (c : Dev nD) (k : Fin 3) : sProp (MT nD τ sig Unit (Elt F) ℕ UU ℕ) :=
  iprop((bigSep Finset.univ fun r : Fin 15 => crd c (kRsR k (up r)) N) ∗ bigSep Finset.univ fun d : Fin 16 => crd c (kAgR k d) N)

/-- The round each of a device's own cells ends at. -/
def endR : Ix → ℕ
  | none => 3
  | some (t, _, d) => if t.val < 2 ∧ d = 0 then 0 else 1

theorem pos_open : (bigSep Finset.univ fun κ : Kd => (pos c κ 0 : sProp (MT nD τ sig Unit (Elt F) ℕ UU ℕ)))
    ⊢ iprop(pos c kBar 0 ∗ pos c kLoc 0 ∗ bigSep Finset.univ fun k : Fin 3 => iprop(idle c k ∗ laySend c k 0 ∗ layGot c k 0)) := by
  rw [bs_opt, bs_opt, bs_xfer fun t k d => pos c (some (some (t, k, d))) 0]
  refine sep_mono_right (sep_mono_right (bs_mono _ _ _ fun k => ?_))
  rw [bs_succ fun d => pos c (some (some (0, k, d))) 0, bs_succ fun d => pos c (some (some (1, k, d))) 0]
  unfold idle laySend layGot
  iintro ⟨⟨H1, H2⟩, ⟨H3, H4⟩, H5, H6⟩
  isplitl [H1 H3]; · isplitl [H1] <;> iassumption
  isplitl [H2 H5]; · isplitl [H2] <;> iassumption
  isplitl [H4] <;> iassumption

theorem endR_lo (t : Fin 4) (ht : t.val < 2) (k : Fin 3) : endR (some (t, k, 0)) = 0 := if_pos ⟨ht, rfl⟩
theorem endR_up (t : Fin 4) (k : Fin 3) (r : Fin 15) : endR (some (t, k, up r)) = 1 := if_neg fun h => Fin.succ_ne_zero r h.2
theorem endR_hi (t : Fin 4) (ht : ¬ t.val < 2) (k : Fin 3) (d : Fin 16) : endR (some (t, k, d)) = 1 := if_neg fun h => ht h.1

theorem pos_close : iprop(pos c kLoc 3 ∗ bigSep Finset.univ fun k : Fin 3 => (iprop(idle c k ∗ laySend c k 1 ∗ layGot c k 1) : sProp (MT nD τ sig Unit (Elt F) ℕ UU ℕ)))
    ⊢ bigSep Finset.univ fun x : Ix => pos c (some x) (endR x) := by
  rw [bs_opt, bs_xfer fun t k d => pos c (some (some (t, k, d))) (endR (some (t, k, d)))]
  refine sep_mono_right (bs_mono _ _ _ fun k => ?_)
  rw [bs_succ fun d => pos c (some (some (0, k, d))) (endR (some (0, k, d))), bs_succ fun d => pos c (some (some (1, k, d))) (endR (some (1, k, d)))]
  simp only [endR_lo 0 (by decide), endR_lo 1 (by decide), endR_up, endR_hi 2 (by decide), endR_hi 3 (by decide)]
  unfold idle laySend layGot
  iintro ⟨⟨H1, H3⟩, ⟨H2, H5⟩, H4, H6⟩
  isplitl [H1 H2]; · isplitl [H1] <;> iassumption
  isplitl [H3 H4]; · isplitl [H3] <;> iassumption
  isplitl [H5] <;> iassumption

/-! ## The slots -/

theorem slots_open : (bigSep Finset.univ fun x : Fin 3 × Fin 16 => slotAny (F := F) c x.1 x.2)
    ⊢ iprop(slotsAny c 0 ∗ bigSep Finset.univ fun r : Fin 15 => slotsAny c (opp (up r))) := by
  rw [bigSep_univ_prod, bs3]
  refine (in3 Finset.univ _ _ _).trans (Entails.of_eq ?_)
  rw [bigSep_univ_equiv oppE (fun d : Fin 16 => iprop(slotAny (F := F) c 0 d ∗ slotAny c 1 d ∗ slotAny c 2 d)), bs_succ]
  rfl

theorem slots_close : iprop(slotsAny (F := F) c 0 ∗ (bigSep Finset.univ fun r : Fin 15 => slotAny (F := F) c 0 (up r))
      ∗ (bigSep Finset.univ fun r : Fin 15 => slotAny (F := F) c 1 (up r)) ∗ (bigSep Finset.univ fun r : Fin 15 => slotAny (F := F) c 2 (up r)))
    ⊢ bigSep Finset.univ fun x : Fin 3 × Fin 16 => slotAny (F := F) c x.1 x.2 := by
  rw [bigSep_univ_prod, bs3, bs_succ fun d => slotAny (F := F) c 0 d, bs_succ fun d => slotAny (F := F) c 1 d, bs_succ fun d => slotAny (F := F) c 2 d]
  iintro ⟨⟨H1, H2, H3⟩, H4, H5, H6⟩
  isplitl [H1 H4]; · isplitl [H1] <;> iassumption
  isplitl [H2 H5]; · isplitl [H2] <;> iassumption
  isplitl [H3] <;> iassumption

theorem slots_peers : (bigSep (Finset.univ.erase (0 : Fin 16)) fun d => slotsAny (F := F) (bwd c d) (opp d))
    ⊢ iprop(laySlots c 0 ∗ laySlots c 1 ∗ laySlots c 2) := by
  have h : (Finset.univ.erase (0 : Fin 16)) = (Finset.univ.erase (0 : Fin 16)).map oppE.toEmbedding := by decide
  have e : (fun d => slotsAny (F := F) (bwd c (oppE.toEmbedding d)) (opp (oppE.toEmbedding d))) = fun d => slotsAny (F := F) (fwd c d) d :=
    funext fun d => by
      show slotsAny (F := F) (bwd c (opp d)) (opp (opp d)) = _
      rw [bwd_opp, opp_opp]
  rw [h, BI.bigSep_map, e, bs_erase]
  unfold laySlots
  exact out3 _ _ _ _

/-! ## Closing the cells -/

theorem duties_end (x : Ix) (r : ℕ) (hr : endR x ≤ r) : dutyK (some x) r = ∅ := by
  rcases x with _ | ⟨t, k, d⟩
  · exact if_neg (Nat.not_lt.mpr hr)
  · refine if_neg fun h => ?_
    obtain ⟨h0, h⟩ := h
    subst h0
    have : ¬ (t.val < 2 ∧ d = 0) := by
      rintro ⟨ht, hd⟩
      rcases h with h | h
      · omega
      · exact h hd
    have e : endR (some (t, k, d)) = 1 := if_neg this
    rw [e] at hr
    exact absurd hr (by decide)

theorem close_one (x : Ix) : iprop(recs m ρ K ∗ pos c (some x) (endR x)) ⊢ (|={Set.univ}=> semVal (kcell (c, some x)) 0 : sProp (MT nD τ sig Unit (Elt F) ℕ UU ℕ)) :=
  (sep_mono_left (recs_inv m ρ K c (some x))).trans
    (Rounds.cell_close ER (Rd m ρ) (Set.mem_univ _) (fun h => h) fun r hr => (duties_at m ρ c (some x) r).trans (duties_end x r hr))

theorem close_bar : iprop(recs m ρ K ∗ pos c kBar 1) ⊢ (|={Set.univ}=> semVal (kcell (c, kBar)) 0 : sProp (MT nD τ sig Unit (Elt F) ℕ UU ℕ)) :=
  (sep_mono_left (recs_inv m ρ K c kBar)).trans
    (Rounds.cell_close ER (Rd m ρ) (Set.mem_univ _) (fun h => h) fun r hr =>
      (duties_at m ρ c kBar r).trans (if_neg (by omega)))

theorem with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i, iprop(R ∗ Φ i) ⊢ Ψ i) : iprop(R ∗ bigSep S Φ) ⊢ bigSep S Ψ :=
  (sep_mono_left (BI.bigSep_of_persistent S R)).trans (by rw [← bigSep_sep']; exact bs_mono _ _ _ h)

theorem close_all : iprop(recs m ρ K ∗ bigSep Finset.univ fun x : Ix => pos c (some x) (endR x))
    ⊢ (|={Set.univ}=> bigSep Finset.univ fun x : Ix => semVal (kcell (c, some x)) 0 : sProp (MT nD τ sig Unit (Elt F) ℕ UU ℕ)) :=
  (with_persistent fun x => close_one m ρ K x).trans (bigSep_fupd _ _)

/-! ## The body -/

abbrev mI : Fin 3 → Memref sig .tc .vmem S1024x2048 .f32
  | 0 => Memref.whole cc0_stg1_0
  | 1 => Memref.whole cc0_stg3_0
  | 2 => Memref.whole cc0_stg5_0
abbrev mO : Fin 3 → Memref sig .tc .vmem S2048x1024 .f32
  | 0 => Memref.whole cc0_stg2_0
  | 1 => Memref.whole cc0_stg4_0
  | 2 => Memref.whole cc0_stg6_0

/-- A layer's staged weights. -/
def wts (c : Dev nD) (k : Fin 3) : sProp (MT nD τ sig Unit (Elt F) ℕ UU ℕ) :=
  iprop(owns (c : Thread nD τ) (mI k) fullShare (wi m ρ k c) ∗ owns (c : Thread nD τ) (mO k) fullShare (wo m ρ k c))

theorem step_part (k : Fin 3) (x : FVec F S64x1024 .f32) (hx : x = xin m ρ k.val c) (p : P F) :
    iprop(wts m ρ c k ∗ anyOf c mPart ∗ anyOf c mPbf)
      ⊢ iprop(((wts m ρ c k ∗ owns (c : Thread nD τ) mPart fullShare (partC m ρ k c) ∗ owns (c : Thread nD τ) mPbf fullShare (pbfC m ρ k c)) -∗ WP c p Q)
          -∗ WP c (computeP x (mI k) (mO k) p) Q) := by
  subst hx
  unfold wts
  iintro ⟨⟨Hi, Ho⟩, Hp, Hb⟩ Hk
  iapply (step_compute (c := c) (xin m ρ k.val c) (mI k) (mO k) (wi m ρ k c) (wo m ρ k c) p) $$ [Hi Ho Hp Hb]
  · isplitl [Hi]; · iexact Hi
    isplitl [Ho]; · iexact Ho
    isplitl [Hp] <;> iassumption
  iintro ⟨Hi, Ho, Hp, Hb⟩
  iapply Hk
  isplitl [Hi Ho]; · isplitl [Hi] <;> iassumption
  isplitl [Hp]; · iexact Hp
  iexact Hb

/-- The scratch buffers at any contents. -/
def scratch (c : Dev nD) : sProp (MT nD τ sig Unit (Elt F) ℕ UU ℕ) :=
  iprop(anyOf c mPart ∗ anyOf c mPbf ∗ anyOf c mOwn ∗ anyOf c mRed ∗ anyOf c mXg ∗ bigSep Finset.univ fun x : Fin 3 × Fin 16 => slotAny c x.1 x.2)

/-- What a device holds of the schedule at entry. -/
def entry (c : Dev nD) : sProp (MT nD τ sig Unit (Elt F) ℕ UU ℕ) :=
  iprop((bigSep Finset.univ fun κ : Kd => pos c κ 0) ∗ (bigSep Finset.univ fun r : Fin 15 => tok (fwd c (up r)) kBar 0 (up r))
    ∗ (bigSep Finset.univ fun k : Fin 3 => layToks c k))
/-- Its rights to wait. -/
def rights (c : Dev nD) : sProp (MT nD τ sig Unit (Elt F) ℕ UU ℕ) := iprop(crd c kBar 15 ∗ bigSep Finset.univ fun k : Fin 3 => layCrd c k)
/-- Its counters at exit. -/
def counters (c : Dev nD) : sProp (MT nD τ sig Unit (Elt F) ℕ UU ℕ) :=
  iprop(semVal (kcell (c, kBar)) 0 ∗ bigSep Finset.univ fun x : Ix => semVal (kcell (c, some x)) 0)

theorem recv_of (k : Fin 3) : iprop(layCrd (F := F) c k ∗ layGot c k 0) ⊢ layRecv c k := by
  unfold layCrd layGot layRecv
  iintro ⟨⟨H1, H2⟩, H3, H4⟩
  isplitl [H1 H3]
  · iapply (in2 _ _ _); isplitl [H1] <;> iassumption
  · iapply (in2 _ _ _); isplitl [H2] <;> iassumption

theorem step_dev (k : Dev nD → P F) : WP c (k c) Q ⊢ WP c (.op .deviceId k) Q := by
  show _ ⊢ wp frame _ _ _ _
  rw [wp_deviceId]

theorem step_body :
    iprop(recs m ρ K ∗ entry c ∗ rights c ∗ scratch c ∗ owns (c : Thread nD τ) mX fullShare (xs m ρ c) ∗ wts m ρ c 0 ∗ wts m ρ c 1 ∗ wts m ρ c 2
        ∗ anyOf c mOut ∗ ow c (duesAll c))
      ⊢ iprop(((counters c ∗ scratch c ∗ owns (c : Thread nD τ) mX fullShare (xs m ρ c) ∗ wts m ρ c 0 ∗ wts m ρ c 1 ∗ wts m ρ c 2
          ∗ owns (c : Thread nD τ) mOut fullShare (xin m ρ 3 c) ∗ ow c []) -∗ Q ⟨⟩)
          -∗ WP c bodyP Q) := by
  unfold bodyP entry rights scratch
  iintro ⟨#HR, ⟨Hpos, Htb, Htk⟩, ⟨Hcb, Hck⟩, ⟨Hpart, Hpbf, Hown, Hred, Hxg, Hsl⟩, Hx, Hw0, Hw1, Hw2, ⟨%Y, Hout⟩, HO⟩ Hk
  iapply (step_dev (c := c))
  ihave Hpos := (pos_open (F := F) (c := c)) $$ Hpos
  icases Hpos with ⟨HpB, HpL, Hpos⟩
  ihave Hpos := (Entails.of_eq (bs3 fun k => iprop(idle (F := F) c k ∗ laySend c k 0 ∗ layGot c k 0))) $$ Hpos
  icases Hpos with ⟨⟨Hi0, Hs0, Hg0⟩, ⟨Hi1, Hs1, Hg1⟩, ⟨Hi2, Hs2, Hg2⟩⟩
  ihave Htk := (Entails.of_eq (bs3 fun k => layToks (F := F) c k)) $$ Htk
  icases Htk with ⟨Ht0, Ht1, Ht2⟩
  ihave Hck := (Entails.of_eq (bs3 fun k => layCrd (F := F) c k)) $$ Hck
  icases Hck with ⟨Hc0, Hc1, Hc2⟩
  ihave Hsl := (slots_open (F := F) (c := c)) $$ Hsl
  icases Hsl with ⟨Hz, Hsl⟩
  -- the entry barrier's signals
  iapply (loop_pay m ρ K (opSignal F c) (dSig c) _ _ (dues0 c) (fun r l k => step_signal m ρ K r l k) rs15) $$ [Htb Hsl HO]
  · isplitr; · iexact HR
    isplitr [HO]
    · rw [← bs15]
      iapply (in2 _ _ _)
      isplitl [Htb] <;> iassumption
    iexact HO
  iintro ⟨-, HO⟩
  iapply (step_ldS mX fullShare (xs m ρ c)) $$ Hx
  iintro Hx
  -- the first layer
  iapply (step_part m ρ 0 _ (shapeCast_self (xs m ρ c) _)) $$ [Hw0 Hpart Hpbf]
  · isplitl [Hw0]; · iexact Hw0
    isplitl [Hpart] <;> iassumption
  iintro ⟨Hw0, Hpart, Hpbf⟩
  iapply (step_barrier m ρ K (dues0 c) (above_dues0 c)) $$ [Hcb HpB HO]
  · isplitr; · iexact HR
    isplitl [Hcb]; · iexact Hcb
    isplitl [HpB] <;> iassumption
  iintro ⟨HO, HpB, Hpeer⟩
  ihave Hpeer := (slots_peers (F := F) (c := c)) $$ Hpeer
  icases Hpeer with ⟨Hq0, Hq1, Hq2⟩
  ihave Hr0 := (recv_of (F := F) (c := c) 0) $$ [Hc0 Hg0]
  · isplitl [Hc0] <;> iassumption
  ihave Hr1 := (recv_of (F := F) (c := c) 1) $$ [Hc1 Hg1]
  · isplitl [Hc1] <;> iassumption
  ihave Hr2 := (recv_of (F := F) (c := c) 2) $$ [Hc2 Hg2]
  · isplitl [Hc2] <;> iassumption
  iapply (step_exch m ρ K 0 (dues1 c) (above_dues1 c)) $$ [Ht0 Hr0 Hq0 HpL Hpart Hpbf Hown Hred Hxg HO]
  · isplitr; · iexact HR
    isplitl [Ht0]; · iexact Ht0
    isplitl [Hr0]; · iexact Hr0
    isplitl [Hq0]; · iexact Hq0
    isplitl [HpL]
    · unfold locAt
      isplitl [HpL]; · iexact HpL
      iapply (recs_reached m ρ K c kLoc); iexact HR
    isplitl [Hpart]; · iexact Hpart
    isplitl [Hpbf]; · iexact Hpbf
    isplitl [Hown]; · iexact Hown
    isplitl [Hred]; · iexact Hred
    isplitl [Hxg]; · iexact Hxg
    iexact HO
  iintro ⟨Hd0, Hn0, HpL, Hpart, Hown, Hxg, HO⟩
  iapply (step_done m ρ K 0 (dues1 c) (above_mono (Nat.zero_le _) (above_dues1 c))) $$ [Hn0 Hs0 HO]
  · isplitr; · iexact HR
    isplitl [Hn0]; · iexact Hn0
    isplitl [Hs0] <;> iassumption
  iintro ⟨Hs0, Hpbf, Hred, HO⟩
  -- the second layer
  iapply (step_ldS mXg fullShare (xgC m ρ 0)) $$ Hxg
  iintro Hxg
  iapply (step_part m ρ 1 _ (xin_succ m ρ 0 c).symm) $$ [Hw1 Hpart Hpbf]
  · isplitl [Hw1]; · iexact Hw1
    isplitl [Hpart] <;> iassumption
  iintro ⟨Hw1, Hpart, Hpbf⟩
  iapply (step_exch m ρ K 1 (dues2 c) (above_dues2 c)) $$ [Ht1 Hr1 Hq1 HpL Hpart Hpbf Hown Hred Hxg HO]
  · isplitr; · iexact HR
    isplitl [Ht1]; · iexact Ht1
    isplitl [Hr1]; · iexact Hr1
    isplitl [Hq1]; · iexact Hq1
    isplitl [HpL]; · iexact HpL
    isplitl [Hpart]; · iexact Hpart
    isplitl [Hpbf]; · iexact Hpbf
    isplitl [Hown]; · iexact Hown
    isplitl [Hred]; · iexact Hred
    isplitl [Hxg]; · iexists _; iexact Hxg
    iexact HO
  iintro ⟨Hd1, Hn1, HpL, Hpart, Hown, Hxg, HO⟩
  iapply (step_done m ρ K 1 (dues2 c) (above_mono (Nat.zero_le _) (above_dues2 c))) $$ [Hn1 Hs1 HO]
  · isplitr; · iexact HR
    isplitl [Hn1]; · iexact Hn1
    isplitl [Hs1] <;> iassumption
  iintro ⟨Hs1, Hpbf, Hred, HO⟩
  -- the third layer
  iapply (step_ldS mXg fullShare (xgC m ρ 1)) $$ Hxg
  iintro Hxg
  iapply (step_part m ρ 2 _ (xin_succ m ρ 1 c).symm) $$ [Hw2 Hpart Hpbf]
  · isplitl [Hw2]; · iexact Hw2
    isplitl [Hpart] <;> iassumption
  iintro ⟨Hw2, Hpart, Hpbf⟩
  iapply (step_exch m ρ K 2 [] (above_nil _)) $$ [Ht2 Hr2 Hq2 HpL Hpart Hpbf Hown Hred Hxg HO]
  · isplitr; · iexact HR
    isplitl [Ht2]; · iexact Ht2
    isplitl [Hr2]; · iexact Hr2
    isplitl [Hq2]; · iexact Hq2
    isplitl [HpL]; · iexact HpL
    isplitl [Hpart]; · iexact Hpart
    isplitl [Hpbf]; · iexact Hpbf
    isplitl [Hown]; · iexact Hown
    isplitl [Hred]; · iexact Hred
    isplitl [Hxg]; · iexists _; iexact Hxg
    iexact HO
  iintro ⟨Hd2, Hn2, HpL, Hpart, Hown, Hxg, HO⟩
  iapply (step_ldS mXg fullShare (xgC m ρ 2)) $$ Hxg
  iintro Hxg
  iapply (step_ldS mOut fullShare Y) $$ Hout
  iintro Hout
  iapply (step_stS mOut) $$ [Hout]
  · iexists Y; iexact Hout
  iintro Hout
  iapply (step_done m ρ K 2 [] (above_nil _)) $$ [Hn2 Hs2 HO]
  · isplitr; · iexact HR
    isplitl [Hn2]; · iexact Hn2
    isplitl [Hs2] <;> iassumption
  iintro ⟨Hs2, Hpbf, Hred, HO⟩
  -- the counters at zero
  unfold layDone
  icases Hd0 with ⟨Ha0, Hl0, Hb0⟩
  icases Hd1 with ⟨Ha1, Hl1, Hb1⟩
  icases Hd2 with ⟨Ha2, Hl2, Hb2⟩
  imod (close_bar m ρ K (c := c)) $$ [HpB] with HzB
  · isplitr; · iexact HR
    iexact HpB
  unfold locAt
  icases HpL with ⟨HpL, -⟩
  ihave Hpos := (pos_close (F := F) (c := c)) $$ [HpL Hi0 Hi1 Hi2 Hs0 Hs1 Hs2 Ha0 Ha1 Ha2 Hb0 Hb1 Hb2]
  · isplitl [HpL]; · iexact HpL
    rw [bs3]
    unfold layGot
    isplitl [Hi0 Hs0 Ha0 Hb0]
    · isplitl [Hi0]; · iexact Hi0
      isplitl [Hs0]; · iexact Hs0
      isplitl [Ha0] <;> iassumption
    isplitl [Hi1 Hs1 Ha1 Hb1]
    · isplitl [Hi1]; · iexact Hi1
      isplitl [Hs1]; · iexact Hs1
      isplitl [Ha1] <;> iassumption
    · isplitl [Hi2]; · iexact Hi2
      isplitl [Hs2]; · iexact Hs2
      isplitl [Ha2] <;> iassumption
  imod (close_all m ρ K (c := c)) $$ [Hpos] with Hzero
  · isplitr; · iexact HR
    iexact Hpos
  rw [wp_ret]; imodintro
  iapply Hk
  isplitl [HzB Hzero]
  · unfold counters; isplitl [HzB] <;> iassumption
  isplitl [Hpart Hpbf Hown Hred Hxg Hz Hl0 Hl1 Hl2]
  · isplitl [Hpart]; · iexact Hpart
    isplitl [Hpbf]; · iexact Hpbf
    isplitl [Hown]; · iexact Hown
    isplitl [Hred]; · iexact Hred
    isplitl [Hxg]; · iexists _; iexact Hxg
    iapply (slots_close (F := F) (c := c))
    isplitl [Hz]; · iexact Hz
    isplitl [Hl0]; · iexact Hl0
    isplitl [Hl1] <;> iassumption
  isplitl [Hx]; · iexact Hx
  isplitl [Hw0]; · iexact Hw0
  isplitl [Hw1]; · iexact Hw1
  isplitl [Hw2]; · iexact Hw2
  isplitl [Hout]
  · iapply (Entails.of_eq (congrArg (owns (c : Thread nD τ) mOut fullShare) (xin_succ m ρ 2 c).symm)); iexact Hout
  iexact HO

end Cert.KernelIdeal.Hand
-- ==== Proof.KernelIdeal.Ghost.lean ====
/- What the sixteen devices share at the start: the cells, the tokens each pays with, the rights to wait. -/
module

public import proofs.«01_k».proof.Proof.KernelIdeal.Body

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tokens, cell by cell -/

abbrev TokIx : Type := (Dev nD × Kd) × (Fin 3 × Fin 16)
def tokOf (x : TokIx) : GSem nD τ sig × ℕ × Fin 16 := (kcell x.1, x.2.1.val, x.2.2)
theorem tokOf_injective : Function.Injective tokOf := fun a b h =>
  Prod.ext (kcell_injective (congrArg (·.1) h)) (Prod.ext (Fin.ext (congrArg (·.2.1) h)) (congrArg (·.2.2) h))

def ringCells : Finset (GSem nD τ sig) := Finset.univ.map ⟨kcell, kcell_injective⟩
def ringToks : Finset (GSem nD τ sig × ℕ × Fin 16) := Finset.univ.map ⟨tokOf, tokOf_injective⟩

/-- The tokens of a layer's units at a device's own cells. -/
def cellLay (c : Dev nD) (k : Fin 3) : sProp (MT nD τ sig Unit (Elt F) ℕ UU ℕ) :=
  iprop(((bigSep Finset.univ fun r : Fin 15 => tok c (kRsS k (up r)) 0 0) ∗ (bigSep Finset.univ fun r : Fin 15 => tok c (kRsR k (up r)) 0 0))
    ∗ ((bigSep Finset.univ fun d : Fin 16 => tok c (kAgS k d) 0 0) ∗ (bigSep Finset.univ fun d : Fin 16 => tok c (kAgR k d) 0 0))
    ∗ tok c kLoc k.val 0)
def cellToks (c : Dev nD) : sProp (MT nD τ sig Unit (Elt F) ℕ UU ℕ) :=
  iprop((bigSep Finset.univ fun r : Fin 15 => tok c kBar 0 (up r)) ∗ bigSep Finset.univ fun k : Fin 3 => cellLay c k)

theorem toks_bar (c : Dev nD) : (bigSep Finset.univ fun x : Fin 3 × Fin 16 => (tok c kBar x.1.val x.2 : sProp (MT nD τ sig Unit (Elt F) ℕ UU ℕ)))
    ⊢ bigSep Finset.univ fun r : Fin 15 => tok c kBar 0 (up r) := by
  rw [bigSep_univ_prod (fun x : Fin 3 × Fin 16 => (tok c kBar x.1.val x.2 : sProp (MT nD τ sig Unit (Elt F) ℕ UU ℕ))), bs3,
    bs_succ fun d => (tok c kBar (0 : Fin 3).val d : sProp (MT nD τ sig Unit (Elt F) ℕ UU ℕ))]
  exact sep_elim_left.trans sep_elim_right

theorem toks_loc (c : Dev nD) : (bigSep Finset.univ fun x : Fin 3 × Fin 16 => (tok c kLoc x.1.val x.2 : sProp (MT nD τ sig Unit (Elt F) ℕ UU ℕ)))
    ⊢ bigSep Finset.univ fun k : Fin 3 => tok c kLoc k.val 0 := by
  rw [bigSep_univ_prod (fun x : Fin 3 × Fin 16 => (tok c kLoc x.1.val x.2 : sProp (MT nD τ sig Unit (Elt F) ℕ UU ℕ)))]
  exact bs_mono _ _ _ fun k => bigSep_elim (Finset.mem_univ (0 : Fin 16))

theorem toks_xfer (c : Dev nD) :
    (bigSep Finset.univ fun y : Fin 4 × Fin 3 × Fin 16 => bigSep Finset.univ fun x : Fin 3 × Fin 16 =>
        (tok c (some (some y)) x.1.val x.2 : sProp (MT nD τ sig Unit (Elt F) ℕ UU ℕ)))
    ⊢ bigSep Finset.univ fun k : Fin 3 => iprop((bigSep Finset.univ fun d => tok c (kRsS k d) 0 0) ∗ (bigSep Finset.univ fun d => tok c (kRsR k d) 0 0)
        ∗ (bigSep Finset.univ fun d => tok c (kAgS k d) 0 0) ∗ (bigSep Finset.univ fun d => tok c (kAgR k d) 0 0)) :=
  (bs_mono _ _ (fun y : Fin 4 × Fin 3 × Fin 16 => tok c (some (some (y.1, y.2.1, y.2.2))) 0 0) fun y => bigSep_elim (Finset.mem_univ ((0, 0) : Fin 3 × Fin 16))).trans
    (Entails.of_eq (bs_xfer fun t k d => tok c (some (some (t, k, d))) 0 0))

theorem toks_cells (c : Dev nD) :
    (bigSep Finset.univ fun κ : Kd => bigSep Finset.univ fun x : Fin 3 × Fin 16 => (tok c κ x.1.val x.2 : sProp (MT nD τ sig Unit (Elt F) ℕ UU ℕ)))
      ⊢ cellToks c := by
  rw [bs_opt, bs_opt]
  unfold cellToks
  iintro ⟨HB, HL, HX⟩
  isplitl [HB]
  · iapply (toks_bar (F := F) c); iexact HB
  ihave HL := (toks_loc (F := F) c) $$ HL
  ihave HX := (toks_xfer (F := F) c) $$ HX
  iapply ((in2 Finset.univ _ _).trans (bs_mono Finset.univ _ (fun k : Fin 3 => cellLay (F := F) c k) fun k => ?_)) $$ [HL HX]
  rotate_left
  · isplitl [HL]; · iexact HL
    iexact HX
  rw [bs_succ fun d => (tok c (kRsS k d) 0 0 : sProp (MT nD τ sig Unit (Elt F) ℕ UU ℕ)),
    bs_succ fun d => (tok c (kRsR k d) 0 0 : sProp (MT nD τ sig Unit (Elt F) ℕ UU ℕ))]
  unfold cellLay
  show _ ⊢ _
  iintro ⟨H0, ⟨-, H1⟩, ⟨-, H2⟩, H3, H4⟩
  isplitl [H1 H2]; · isplitl [H1] <;> iassumption
  isplitl [H3 H4]; · isplitl [H3] <;> iassumption
  iexact H0

/-! ## The tokens, payer by payer -/

/-- Every device moved on by a distance that may depend on an index. -/
def aroundE {D : Type} (f : D → Fin 16) : Dev nD × D ≃ Dev nD × D where
  toFun x := (fwd x.1 (f x.2), x.2)
  invFun x := (bwd x.1 (f x.2), x.2)
  left_inv x := Prod.ext (bwd_fwd _ _) rfl
  right_inv x := Prod.ext (fwd_bwd _ _) rfl

theorem bs_around {D : Type} [Fintype D] [DecidableEq D] (f : D → Fin 16) (Φ : Dev nD → D → sProp (MT nD τ sig Unit (Elt F) ℕ UU ℕ)) :
    (bigSep Finset.univ fun c : Dev nD => bigSep Finset.univ fun d : D => Φ c d)
      = bigSep Finset.univ fun c : Dev nD => bigSep Finset.univ fun d : D => Φ (fwd c (f d)) d := by
  rw [← bigSep_univ_prod (fun x : Dev nD × D => Φ x.1 x.2), ← bigSep_univ_prod (fun x : Dev nD × D => Φ (fwd x.1 (f x.2)) x.2)]
  exact bigSep_univ_equiv (aroundE f) _

theorem lay_around (k : Fin 3) : (bigSep Finset.univ fun c : Dev nD => cellLay (F := F) c k) ⊢ bigSep Finset.univ fun c : Dev nD => layToks c k := by
  unfold cellLay
  rw [bigSep_sep', bigSep_sep', bigSep_sep', bigSep_sep',
    bs_around up (fun (c : Dev nD) (r : Fin 15) => (tok c (kRsR k (up r)) 0 0 : sProp (MT nD τ sig Unit (Elt F) ℕ UU ℕ))),
    bs_around id (fun (c : Dev nD) (d : Fin 16) => (tok c (kAgR k d) 0 0 : sProp (MT nD τ sig Unit (Elt F) ℕ UU ℕ)))]
  rw [← bigSep_sep', ← bigSep_sep', ← bigSep_sep', ← bigSep_sep']
  refine bs_mono _ _ _ fun c => ?_
  unfold layToks
  show _ ⊢ _
  iintro ⟨⟨H1, H2⟩, ⟨H3, H4⟩, H5⟩
  isplitl [H1 H2]
  · iapply (in2 _ _ _); isplitl [H1] <;> iassumption
  isplitl [H3 H4]
  · iapply (in2 _ _ _)
    isplitl [H3]; · iexact H3
    iexact H4
  iexact H5

/-- What each device pays with. -/
def payToks (c : Dev nD) : sProp (MT nD τ sig Unit (Elt F) ℕ UU ℕ) :=
  iprop((bigSep Finset.univ fun r : Fin 15 => tok (fwd c (up r)) kBar 0 (up r)) ∗ bigSep Finset.univ fun k : Fin 3 => layToks c k)

theorem toks_around : (bigSep Finset.univ fun c : Dev nD => cellToks (F := F) c) ⊢ bigSep Finset.univ fun c : Dev nD => payToks c := by
  unfold cellToks payToks
  rw [bigSep_sep', bigSep_sep', bs_around up (fun (c : Dev nD) (r : Fin 15) => (tok c kBar 0 (up r) : sProp (MT nD τ sig Unit (Elt F) ℕ UU ℕ)))]
  refine sep_mono_right ?_
  simp only [bs3]
  rw [bigSep_sep', bigSep_sep', bigSep_sep', bigSep_sep']
  exact BIClass.sep_mono (lay_around 0) (BIClass.sep_mono (lay_around 1) (lay_around 2))

/-! ## The rights to wait -/

theorem tl_map {α : Type} (l : List α) (f : α → Due) : tl (l.map f) = (l.map fun a => tallyAt (f a).1 () (f a).2).sum := by
  induction l with
  | nil => rfl
  | cons a l ih => rw [List.map_cons, tl, ih, List.map_cons, List.sum_cons, add_comm]

theorem tl_univ {n : ℕ} (l : List (Fin n)) (hu : ∀ a, a ∈ l) (hn : l.Nodup) (f : Fin n → Due) :
    tl (l.map f) = ∑ a, tallyAt (f a).1 () (f a).2 := by
  rw [tl_map, ← List.sum_toFinset _ hn]
  exact Finset.sum_congr (Finset.ext fun a => iff_of_true (List.mem_toFinset.mpr (hu a)) (Finset.mem_univ a)) fun _ _ => rfl

theorem sum_around {D : Type} [Fintype D] (f : D → Fin 16) (T : Dev nD → D → CellTallies nD τ sig Unit) :
    (∑ c : Dev nD, ∑ d : D, T (fwd c (f d)) d) = ∑ c : Dev nD, ∑ d : D, T c d := by
  rw [← Fintype.sum_prod_type' (fun c d => T (fwd c (f d)) d), ← Fintype.sum_prod_type' T]
  exact Equiv.sum_comp (aroundE f) fun x => T x.1 x.2

theorem tally_rep (g : GSem nD τ sig) (n : ℕ) : (n • tallyAt g () 1 : CellTallies nD τ sig Unit) = tallyAt g () n := by
  induction n with
  | zero => rw [zero_nsmul, tallyAt_zero]
  | succ n ih => rw [succ_nsmul, ih, tallyAt_add]

/-- The units a device will be paid. -/
def cLayer (k : Fin 3) (c : Dev nD) (l : List Due) : List Due :=
  rs15.map (fun r => (kcell (c, kRsR k (up r)), N)) ++ (rs16'.map (fun d => (kcell (c, kAgR k d), N)) ++ l)
def creds (c : Dev nD) : List Due := (kcell (c, kBar), 15) :: cLayer 0 c (cLayer 1 c (cLayer 2 c []))

theorem mem_rs15 : ∀ a : Fin 15, a ∈ rs15 := by decide
theorem mem_rs16' : ∀ a : Fin 16, a ∈ rs16' := by decide
theorem nodup_rs15 : rs15.Nodup := by decide
theorem nodup_rs16' : rs16'.Nodup := by decide

theorem sum_layer (k : Fin 3) (A B : Dev nD → List Due) (h : (∑ c, tl (A c)) = ∑ c, tl (B c)) :
    (∑ c, tl (dLayer k c (A c))) = ∑ c, tl (cLayer k c (B c)) := by
  unfold dLayer cLayer
  simp only [tl_append, tl_univ rs15 mem_rs15 nodup_rs15, tl_univ rs16' mem_rs16' nodup_rs16', Finset.sum_add_distrib, h]
  unfold dRs dAg
  exact congrArg₂ (· + ·) (congrArg (_ + ·) (sum_around id fun c d => tallyAt (kcell (c, kAgR k d)) () N))
    (sum_around up fun c r => tallyAt (kcell (c, kRsR k (up r))) () N)

theorem sum_dues : (∑ c, tl (duesAll c)) = ∑ c, tl (creds c) := by
  unfold duesAll creds dues0 dues1 dues2
  simp only [tl_append, tl_univ rs15 mem_rs15 nodup_rs15, tl, Finset.sum_add_distrib]
  rw [sum_layer 0 _ _ (sum_layer 1 _ _ (sum_layer 2 (fun _ => []) (fun _ => []) rfl))]
  unfold dSig
  rw [sum_around up fun c _ => tallyAt (kcell (c, kBar)) () 1]
  refine congrArg _ (Finset.sum_congr rfl fun c _ => ?_)
  rw [Finset.sum_const, Finset.card_univ, Fintype.card_fin, tally_rep]

theorem creds_own (c : Dev nD) : ∀ x ∈ creds c, x.1.1 = (c.tc : Thread nD τ) := by
  have hl : ∀ k l, (∀ x ∈ l, x.1.1 = (c.tc : Thread nD τ)) → ∀ x ∈ cLayer k c l, x.1.1 = (c.tc : Thread nD τ) := fun k l h x hx => by
    rcases List.mem_append.mp hx with hx | hx
    · obtain ⟨r, -, rfl⟩ := List.mem_map.mp hx; rfl
    rcases List.mem_append.mp hx with hx | hx
    · obtain ⟨r, -, rfl⟩ := List.mem_map.mp hx; rfl
    · exact h x hx
  intro x hx
  rcases List.mem_cons.mp hx with rfl | hx
  · rfl
  · exact hl 0 _ (hl 1 _ (hl 2 _ fun x hx => absurd hx List.not_mem_nil)) x hx

theorem cred_tl (l l' : List Due) : (cred (tl (l ++ l')) : sProp (MT nD τ sig Unit (Elt F) ℕ UU ℕ))
    ⊢ iprop(bigSepL l (fun x => cred (tallyAt x.1 () x.2)) ∗ cred (tl l')) := by
  induction l with
  | nil => rw [bigSepL_nil]; exact BIClass.emp_sep.mpr
  | cons x l ih =>
    rw [List.cons_append, tl, bigSepL_cons']
    refine (cred_add _ _).1.trans ?_
    iintro ⟨H, Hx⟩
    ihave H := ih $$ H
    icases H with ⟨H, H'⟩
    isplitl [Hx H]; · isplitl [Hx] <;> iassumption
    iexact H'

theorem cred_layer (c : Dev nD) (k : Fin 3) (l : List Due) : (cred (tl (cLayer k c l)) : sProp (MT nD τ sig Unit (Elt F) ℕ UU ℕ))
    ⊢ iprop(layCrd c k ∗ cred (tl l)) := by
  unfold cLayer layCrd
  iintro H
  ihave H := (cred_tl (F := F) _ _) $$ H
  icases H with ⟨H1, H⟩
  ihave H := (cred_tl (F := F) _ _) $$ H
  icases H with ⟨H2, H⟩
  isplitl [H1 H2]
  · isplitl [H1]
    · iapply (Entails.of_eq ((bigSepL_map _ _ _).trans (bs15 fun r : Fin 15 => crd (F := F) c (kRsR k (up r)) N).symm)); iexact H1
    · iapply (Entails.of_eq ((bigSepL_map _ _ _).trans (bs16' fun d : Fin 16 => crd (F := F) c (kAgR k d) N).symm)); iexact H2
  iexact H

theorem rights_intro (c : Dev nD) : (Pipeline.launchCred (fun d => tl (duesAll d)) c : sProp (MT nD τ sig Unit (Elt F) ℕ UU ℕ)) ⊢ rights c := by
  rw [Pipeline.launchCred_of_sum (fun d => tl (duesAll d)) (fun d => tl (creds d)) sum_dues (fun d g h => by
    have : ∃ u, 0 < tl (creds d) g u := by
      by_contra hc
      exact h (Finsupp.ext fun u => Nat.eq_zero_of_not_pos fun hp => hc ⟨u, hp⟩)
    obtain ⟨u, hu⟩ := this
    obtain ⟨x, hx, rfl⟩ := tl_pos hu
    exact creds_own d x hx) c]
  unfold rights creds
  rw [tl, bs3]
  refine (cred_add _ _).1.trans ?_
  iintro ⟨H, HB⟩
  isplitl [HB]; · iexact HB
  ihave H := (cred_layer (F := F) c 0 _) $$ H
  icases H with ⟨H0, H⟩
  ihave H := (cred_layer (F := F) c 1 _) $$ H
  icases H with ⟨H1, H⟩
  ihave H := (cred_layer (F := F) c 2 _) $$ H
  icases H with ⟨H2, H⟩
  isplitl [H0]; · iexact H0
  isplitl [H1]; · iexact H1
  iexact H2

end Cert.KernelIdeal.Hand
-- ==== Proof.KernelIdeal.Launch.lean ====
/- The launch on sixteen devices: the run of the whole program from any memory. -/
module

public import proofs.«01_k».proof.Proof.KernelIdeal.Ghost
public import Idealize.ShloMosaic.Lib.Pipeline.CollectiveSegs

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The shared records -/

def recs0 (K : Dev nD × Kd → ℕ) : sProp (MT nD τ sig Unit (Elt F) ℕ UU ℕ) :=
  bigSep Finset.univ fun ck : Dev nD × Kd => iprop(cellInv ER (Rd m ρ) (K ck) (kcell ck) ∗ reached ER (kcell ck) 0)
instance recs0_persistent (K : Dev nD × Kd → ℕ) : BI.Persistent (recs0 m ρ K) := by unfold recs0; infer_instance

def u₀ : UU := (initOf (Pipeline.cells cfgs cellOf_inj) (Pipeline.launchToks cfgs cellOf_inj), initOf ringCells ringToks)

/-- What a device's cells start from. -/
def G (c : Dev nD) : sProp (MT nD τ sig Unit (Elt F) ℕ UU ℕ) :=
  iprop((bigSep Finset.univ fun κ : Kd => roundState ER (Rd m ρ) (kcell (c, κ)) 0)
    ∗ ((bigSep Finset.univ fun κ : Kd => pos c κ 0) ∗ (bigSep Finset.univ fun κ : Kd => reached ER (kcell (c, κ)) 0)) ∗ cellToks c)
/-- What a device starts from. -/
def G' (c : Dev nD) : sProp (MT nD τ sig Unit (Elt F) ℕ UU ℕ) := iprop(∃ K, recs0 m ρ K ∗ entry c)

theorem fund_cells : BI.own (ER (initOf ringCells ringToks)) ⊢ (|==> bigSep Finset.univ (G m ρ) : sProp (MT nD τ sig Unit (Elt F) ℕ UU ℕ)) := by
  have hX (Φ : GSem nD τ sig → sProp (MT nD τ sig Unit (Elt F) ℕ UU ℕ)) :
      bigSep ringCells Φ = bigSep Finset.univ fun c : Dev nD => bigSep Finset.univ fun κ : Kd => Φ (kcell (c, κ)) := by
    unfold ringCells; rw [bigSep_map, bigSep_univ_prod]; rfl
  have hT : bigSep ringToks (fun x => (dutyTok ER x.1 x.2.1 x.2.2 : sProp (MT nD τ sig Unit (Elt F) ℕ UU ℕ)))
      = bigSep Finset.univ fun c : Dev nD => bigSep Finset.univ fun κ : Kd => bigSep Finset.univ fun x : Fin 3 × Fin 16 => tok c κ x.1.val x.2 := by
    unfold ringToks
    rw [bigSep_map, bigSep_univ_prod, bigSep_univ_prod]
    rfl
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := ((Entails.of_eq hT).trans (bs_mono _ _ _ fun c => toks_cells c)) $$ Htok
  unfold G; simp only [bigSep_sep']
  isplitl [Hst]; · iexact Hst
  isplitl [Hat Hr]
  · isplitl [Hat]; · iexact Hat
    iexact Hr
  iexact Htok

theorem unscopedSems0_eq (c : Dev nD) : (unscopedSems0 c : sProp (MT nD τ sig Unit (Elt F) ℕ UU ℕ)) = semVal (kcell (c, kBar)) 0 := by
  unfold unscopedSems0
  rw [bigSep_eq_bigSepL_of_eq [SemLoc.reg qBar] (by decide) (by decide)]
  rfl

theorem ownSems0_eq (c : Dev nD) : (Pipeline.ownSems0 (Ix := Unit) (Name := ℕ) (U := UU) (Lvl := ℕ) (Val := Elt F) (τ := τ) osem c : sProp (MT nD τ sig Unit (Elt F) ℕ UU ℕ))
    = bigSep Finset.univ fun x : Ix => semVal (kcell (c, some x)) 0 := rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun κ : Kd => iprop(∃ k : ℕ, cellInv ER (Rd m ρ) k (kcell (c, κ))))
          ∗ (bigSep Finset.univ fun κ : Kd => reached ER (kcell (c, κ)) 0) ∗ ((bigSep Finset.univ fun κ : Kd => pos c κ 0) ∗ cellToks c)) := by
  unfold G
  rw [ownSems0_eq, unscopedSems0_eq]
  iintro ⟨Hv, HvB, Hst, ⟨Hat, Hr⟩, Htok⟩
  imod (show iprop((bigSep Finset.univ fun κ : Kd => semVal (kcell (c, κ)) 0) ∗ bigSep Finset.univ fun κ : Kd => roundState ER (Rd m ρ) (kcell (c, κ)) 0)
      ⊢ (|={Set.univ}=> bigSep Finset.univ fun κ : Kd => iprop(∃ k : ℕ, cellInv ER (Rd m ρ) k (kcell (c, κ))) : sProp (MT nD τ sig Unit (Elt F) ℕ UU ℕ)) from by
        rw [← bigSep_sep']
        exact (bs_mono _ _ _ fun κ => (Rounds.body_intro ER (Rd m ρ) (kcell (c, κ))).trans inv_alloc).trans (bigSep_fupd _ _)) $$ [Hv HvB Hst] with Hinv
  · isplitl [Hv HvB]
    · iapply (Entails.of_eq (bs_opt fun κ : Kd => (semVal (kcell (c, κ)) 0 : sProp (MT nD τ sig Unit (Elt F) ℕ UU ℕ))).symm)
      isplitl [HvB] <;> iassumption
    iexact Hst
  imodintro
  isplitl [Hinv]; · iexact Hinv
  isplitl [Hr]; · iexact Hr
  isplitl [Hat] <;> iassumption

theorem regroup :
    (bigSep Finset.univ fun c : Dev nD => iprop((bigSep Finset.univ fun κ : Kd => iprop(∃ k : ℕ, cellInv ER (Rd m ρ) k (kcell (c, κ))))
          ∗ (bigSep Finset.univ fun κ : Kd => reached ER (kcell (c, κ)) 0) ∗ ((bigSep Finset.univ fun κ : Kd => pos c κ 0) ∗ cellToks c))
        : sProp (MT nD τ sig Unit (Elt F) ℕ UU ℕ))
      ⊢ bigSep Finset.univ (G' m ρ) := by
  rw [bigSep_sep', bigSep_sep', bigSep_sep', ← bigSep_univ_prod (fun ck : Dev nD × Kd => iprop(∃ k : ℕ, cellInv ER (Rd m ρ) k (kcell ck))),
    ← bigSep_univ_prod (fun ck : Dev nD × Kd => (reached ER (kcell ck) 0 : sProp (MT nD τ sig Unit (Elt F) ℕ UU ℕ)))]
  iintro ⟨HI, HR, Hat, Htok⟩
  ihave HK := (BI.bigSep_exists_pi Finset.univ (fun (ck : Dev nD × Kd) (k : ℕ) => (cellInv ER (Rd m ρ) k (kcell ck) : sProp (MT nD τ sig Unit (Elt F) ℕ UU ℕ)))) $$ HI
  icases HK with ⟨%K, HI⟩
  ihave Htk := (toks_around (F := F)) $$ Htok
  iapply (with_persistent (R := recs0 m ρ K) (Φ := fun c : Dev nD => entry c) fun c => by
    unfold G'; iintro H; iexists K; iexact H)
  isplitl [HI HR]
  · unfold recs0
    iapply (in2 _ _ _)
    isplitl [HI]; · iexact HI
    iexact HR
  · unfold entry payToks
    iapply (in2 _ _ _)
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G m ρ c) : sProp (MT nD τ sig Unit (Elt F) ℕ UU ℕ))
    ⊢ |={Set.univ}=> bigSep Finset.univ (G' m ρ) :=
  ((bs_mono _ _ _ fun c => core_alloc m ρ c).trans (bigSep_fupd _ _)).trans (BI.fupd_mono (regroup m ρ))

/-! ## The pipeline's data -/

abbrev O₀ (c : Dev nD) : CellTallies nD τ sig Unit := tl (duesAll c)

def start (c : Dev nD) : sProp (MT nD τ sig Unit (Elt F) ℕ UU ℕ) := iprop((∃ K, recs m ρ K ∗ entry c) ∗ rights c)
def Φ₀ (c : Dev nD) : sProp (MT nD τ sig Unit (Elt F) ℕ UU ℕ) := iprop(start m ρ c ∗ scratch c)
def Φ₁ (c : Dev nD) : sProp (MT nD τ sig Unit (Elt F) ℕ UU ℕ) := iprop(counters (F := F) c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wi m ρ 0 c
    | ⟨2, _⟩ => wo m ρ 0 c
    | ⟨3, _⟩ => wi m ρ 1 c
    | ⟨4, _⟩ => wo m ρ 1 c
    | ⟨5, _⟩ => wi m ρ 2 c
    | ⟨6, _⟩ => wo m ρ 2 c
    | ⟨7, _⟩ => xin m ρ 3 c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body obligation -/

def bodyPre (c : Dev nD) : sProp (MT nD τ sig Unit (Elt F) ℕ UU ℕ) :=
  iprop(Φ₀ m ρ c ∗ ow c (duesAll c) ∗ owns (c : Thread nD τ) mX fullShare (xs m ρ c) ∗ wts m ρ c 0 ∗ wts m ρ c 1 ∗ wts m ρ c 2 ∗ anyOf c mOut)
def bodyPost (c : Dev nD) : sProp (MT nD τ sig Unit (Elt F) ℕ UU ℕ) :=
  iprop(Φ₁ c ∗ ow c [] ∗ owns (c : Thread nD τ) mX fullShare (xs m ρ c) ∗ wts m ρ c 0 ∗ wts m ρ c 1 ∗ wts m ρ c 2
    ∗ owns (c : Thread nD τ) mOut fullShare (xin m ρ 3 c))

theorem sound_body (c : Dev nD) (Q : PUnit.{1} → sProp (MT nD τ sig Unit (Elt F) ℕ UU ℕ)) : bodyPre m ρ c ⊢ iprop((bodyPost m ρ c -∗ Q ⟨⟩) -∗ WP c bodyP Q) := by
  unfold bodyPre Φ₀ start bodyPost Φ₁
  iintro ⟨⟨⟨⟨%K, HR, He⟩, Hr⟩, Hs⟩, HO, Hx, H0, H1, H2, Ho⟩ Hk
  iapply (step_body m ρ K (c := c)) $$ [HR He Hr Hs HO Hx H0 H1 H2 Ho]
  · isplitl [HR]; · iexact HR
    isplitl [He]; · iexact He
    isplitl [Hr]; · iexact Hr
    isplitl [Hs]; · iexact Hs
    isplitl [Hx]; · iexact Hx
    isplitl [H0]; · iexact H0
    isplitl [H1]; · iexact H1
    isplitl [H2]; · iexact H2
    isplitl [Ho] <;> iassumption
  iintro ⟨Hc, Hs, Hx, H0, H1, H2, Ho, HO⟩
  iapply Hk
  isplitl [Hc Hs]; · isplitl [Hc] <;> iassumption
  isplitl [HO]; · iexact HO
  isplitl [Hx]; · iexact Hx
  isplitl [H0]; · iexact H0
  isplitl [H1]; · iexact H1
  isplitl [H2] <;> iassumption

/-- What the pipeline hands the body, window by window. -/
def bodyIn (c : Dev nD) : sProp (MT nD τ sig Unit (Elt F) ℕ UU ℕ) :=
  iprop(Φ₀ m ρ c ∗ (dats m ρ 0 c).owesAt () t0_0.castSucc
    ∗ (∃ d, owns (c : Thread nD τ) mX fullShare ((dats m ρ 0 c).before (0 : Fin 8) t0_0 d))
    ∗ (∃ d, owns (c : Thread nD τ) (mI 0) fullShare ((dats m ρ 0 c).before (1 : Fin 8) t0_0 d))
    ∗ (∃ d, owns (c : Thread nD τ) (mO 0) fullShare ((dats m ρ 0 c).before (2 : Fin 8) t0_0 d))
    ∗ (∃ d, owns (c : Thread nD τ) (mI 1) fullShare ((dats m ρ 0 c).before (3 : Fin 8) t0_0 d))
    ∗ (∃ d, owns (c : Thread nD τ) (mO 1) fullShare ((dats m ρ 0 c).before (4 : Fin 8) t0_0 d))
    ∗ (∃ d, owns (c : Thread nD τ) (mI 2) fullShare ((dats m ρ 0 c).before (5 : Fin 8) t0_0 d))
    ∗ (∃ d, owns (c : Thread nD τ) (mO 2) fullShare ((dats m ρ 0 c).before (6 : Fin 8) t0_0 d))
    ∗ (∃ d, owns (c : Thread nD τ) mOut fullShare ((dats m ρ 0 c).before (7 : Fin 8) t0_0 d)))
/-- What it takes back. -/
def bodyOut (c : Dev nD) : sProp (MT nD τ sig Unit (Elt F) ℕ UU ℕ) :=
  iprop(Φ₁ (F := F) c ∗ (dats m ρ 0 c).owesAt () t0_0.succ
    ∗ owns (c : Thread nD τ) mX fullShare (xs m ρ c)
    ∗ owns (c : Thread nD τ) (mI 0) fullShare (wi m ρ 0 c) ∗ owns (c : Thread nD τ) (mO 0) fullShare (wo m ρ 0 c)
    ∗ owns (c : Thread nD τ) (mI 1) fullShare (wi m ρ 1 c) ∗ owns (c : Thread nD τ) (mO 1) fullShare (wo m ρ 1 c)
    ∗ owns (c : Thread nD τ) (mI 2) fullShare (wi m ρ 2 c) ∗ owns (c : Thread nD τ) (mO 2) fullShare (wo m ρ 2 c)
    ∗ owns (c : Thread nD τ) mOut fullShare (xin m ρ 3 c))

theorem before_0 (c : Dev nD) (d) : (dats m ρ 0 c).before (0 : Fin 8) t0_0 d = xs m ρ c := by unfold Dat.before; rw [if_pos (show (cfg0.win (0 : Fin 8)).fetch t0_0 = true from rfl)]; rfl
theorem before_1 (c : Dev nD) (d) : (dats m ρ 0 c).before (1 : Fin 8) t0_0 d = wi m ρ 0 c := by unfold Dat.before; rw [if_pos (show (cfg0.win (1 : Fin 8)).fetch t0_0 = true from rfl)]; rfl
theorem before_2 (c : Dev nD) (d) : (dats m ρ 0 c).before (2 : Fin 8) t0_0 d = wo m ρ 0 c := by unfold Dat.before; rw [if_pos (show (cfg0.win (2 : Fin 8)).fetch t0_0 = true from rfl)]; rfl
theorem before_3 (c : Dev nD) (d) : (dats m ρ 0 c).before (3 : Fin 8) t0_0 d = wi m ρ 1 c := by unfold Dat.before; rw [if_pos (show (cfg0.win (3 : Fin 8)).fetch t0_0 = true from rfl)]; rfl
theorem before_4 (c : Dev nD) (d) : (dats m ρ 0 c).before (4 : Fin 8) t0_0 d = wo m ρ 1 c := by unfold Dat.before; rw [if_pos (show (cfg0.win (4 : Fin 8)).fetch t0_0 = true from rfl)]; rfl
theorem before_5 (c : Dev nD) (d) : (dats m ρ 0 c).before (5 : Fin 8) t0_0 d = wi m ρ 2 c := by unfold Dat.before; rw [if_pos (show (cfg0.win (5 : Fin 8)).fetch t0_0 = true from rfl)]; rfl
theorem before_6 (c : Dev nD) (d) : (dats m ρ 0 c).before (6 : Fin 8) t0_0 d = wo m ρ 2 c := by unfold Dat.before; rw [if_pos (show (cfg0.win (6 : Fin 8)).fetch t0_0 = true from rfl)]; rfl

theorem body_in (c : Dev nD) : bodyIn m ρ c ⊢ bodyPre m ρ c := by
  unfold bodyIn bodyPre wts Dat.owesAt Pipeline.owesWithin
  simp only [before_0, before_1, before_2, before_3, before_4, before_5, before_6]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  isplitl [HΦ]; · iexact HΦ
  isplitl [HO]; · iexists W; iexact HO
  isplitl [H0]; · iexact H0
  isplitl [H1 H2]; · isplitl [H1] <;> iassumption
  isplitl [H3 H4]; · isplitl [H3] <;> iassumption
  isplitl [H5 H6]; · isplitl [H5] <;> iassumption
  iexists _; iexact H7

theorem body_out (c : Dev nD) : bodyPost m ρ c ⊢ bodyOut m ρ c := by
  unfold bodyOut bodyPost wts Dat.owesAt Pipeline.owesWithin
  iintro ⟨HΦ, ⟨%W, HO⟩, H0, ⟨H1, H2⟩, ⟨H3, H4⟩, ⟨H5, H6⟩, H7⟩
  isplitl [HΦ]; · iexact HΦ
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

theorem body_run (c : Dev nD) : bodyIn m ρ c ⊢ WP c bodyP fun _ => bodyOut m ρ c := by
  refine (body_in m ρ c).trans ?_
  iintro H
  iapply (sound_body m ρ c fun _ => bodyOut m ρ c) $$ H
  iintro H
  iapply (body_out m ρ c); iexact H

theorem body_obligation (c : Dev nD) : BodyObligation (dats (F := F) m ρ 0 c) (defs₀ (F := F)) 𝒱₀ () Set.univ := fun t => by
  rw [fin_N0 t]
  rw [bigSep_W0, bigSep_W0]
  refine BIBase.Entails.trans (Q := bodyIn m ρ c) (Entails.of_eq ?_) ?_
  · unfold bodyIn
    rfl
  refine BIBase.Entails.trans (Q := wp frame (wpE (defs₀ (F := F)) 𝒱₀ c none) Set.univ ((defs₀ (F := F)) .tc cfg0.body (cfg0.bodyArgs t0_0 (cfg0.slots t0_0))) (fun _ => bodyOut m ρ c)) ?_ (Entails.of_eq ?_)
  · rw [show (defs₀ (F := F)) .tc cfg0.body (cfg0.bodyArgs t0_0 (cfg0.slots t0_0)) = cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 from rfl, body_eq]
    refine (body_run m ρ c).trans (Entails.of_eq ?_)
    congr 1
  · refine congrArg _ (funext fun _ => ?_)
    unfold bodyOut
    rfl

/-! ## The launch's side conditions -/

theorem ownSemFacts : Pipeline.OwnSemFacts cfg0.spec osem where
  isScoped k := by
    have h : ∀ q : DmaSem sig, SemLoc.isScoped .tc (.dma q : SemLoc sig) = true := by decide
    rcases k with _ | ⟨t, k, d⟩ <;> exact h _
  inj a b h := Option.some.inj (semOf_injective (a₁ := some a) (a₂ := some b) h)
  disj k w s h := by
    have h1 : kdOf (osem k) = some (some k) := kdOf_semOf (some k)
    rw [h] at h1
    have h2 : kdOf (.dma ((cfg0.spec w).sem s)) = none := by fin_cases w <;> fin_cases s <;> rfl
    exact absurd (h2.symm.trans h1) (by simp)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (rights_intro (F := F) c) $$ Hcr
  imodintro
  unfold start G' recs recs0
  icases HG with ⟨%K, HI, He⟩
  isplitl
  · isplitr [Hc]
    · iexists K
      isplitr [He]
      · isplitl [HI] <;> iassumption
      iexact He
    iexact Hc
  · iempintro

theorem any_whole (c : Dev nD) (b : Ref sig .tc) :
    (iprop(∃ f : Buf (Elt F) ((c : Thread nD τ).loc b), ((c : Thread nD τ).loc b) ↦{fullShare} f) : sProp (MT nD τ sig Unit (Elt F) ℕ UU ℕ))
      ⊢ iprop(∃ X, owns (c : Thread nD τ) (Memref.whole b) fullShare X) := by
  iintro ⟨%f, H⟩
  iexists f
  unfold owns; simp only [Memref.view_whole, View.read_whole, View.set_whole]
  iexists f
  isplitr; · ipureintro; rfl
  iexact H

theorem whole_any (c : Dev nD) (b : Ref sig .tc) :
    (iprop(∃ X, owns (c : Thread nD τ) (Memref.whole b) fullShare X) : sProp (MT nD τ sig Unit (Elt F) ℕ UU ℕ))
      ⊢ iprop(∃ f : Buf (Elt F) ((c : Thread nD τ).loc b), ((c : Thread nD τ).loc b) ↦{fullShare} f) := by
  unfold owns; simp only [Memref.view_whole, View.read_whole, View.set_whole]
  iintro ⟨%X, %f, -, H⟩
  iexists f
  iexact H

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, H0, H1, H2, H3, H4, H5⟩
  isplitl [Hs]; · iexact Hs
  isplitl [H0]; · iapply (any_whole (F := F) c cc0_scratch0); iexact H0
  isplitl [H1]; · iapply (any_whole (F := F) c cc0_scratch1); iexact H1
  isplitl [H2]; · iapply (any_whole (F := F) c cc0_scratch2); iexact H2
  isplitl [H3]; · iapply (any_whole (F := F) c cc0_scratch3); iexact H3
  isplitl [H4]; · iapply (any_whole (F := F) c cc0_scratch4); iexact H4
  iapply (slots_split (F := F) (c := c)); iapply (any_whole (F := F) c cc0_scratch5); iexact H5

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ counters scratch
  iintro ⟨⟨HB, Hz⟩, H0, H1, H2, H3, H4, H5⟩
  isplitl [HB]; · iexact HB
  isplitl [Hz]; · iexact Hz
  isplitl [H0]; · iapply (whole_any (F := F) c cc0_scratch0); iexact H0
  isplitl [H1]; · iapply (whole_any (F := F) c cc0_scratch1); iexact H1
  isplitl [H2]; · iapply (whole_any (F := F) c cc0_scratch2); iexact H2
  isplitl [H3]; · iapply (whole_any (F := F) c cc0_scratch3); iexact H3
  isplitl [H4]; · iapply (whole_any (F := F) c cc0_scratch4); iexact H4
  iapply (whole_any (F := F) c cc0_scratch5)
  iapply (slots_join (F := F) (c := c) ((s₀ m ρ).mem (mRs.view.loc (c : Thread nD τ)))); iexact H5

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t => by
    have hl : lv ((c : Thread nD τ), SemLoc.dma ((cfg0.spec w).sem s)) () ≤ 0 := by fin_cases w <;> fin_cases s <;> exact Nat.le_refl 0
    rcases t with ⟨_ | _, ht⟩
    · exact mayWait_of c _ 0 hl (duesAll c) (above_duesAll c)
    · exact mayWait_of c _ 0 hl [] (above_nil 0)

/-! ## The run -/

/-- A device's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, over any float values: every weakly fair execution of the sixteen devices'
    program ends, each window's array at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand
-- ==== Proof.KernelIdeal.Run.lean ====
/- The frame of the program on sixteen devices, and its result as a value. -/
module

public import proofs.«01_k».proof.Proof.KernelIdeal.Launch

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem final_in (c : Dev nD) (w : Fin cfg0.W) (h : w ≠ 7) : finalA m ρ c w = (s₀ m ρ).mem ((cfg0.win w).arr.view.loc (c : Thread nD τ)) :=
  (dats m ρ 0 c).arrAt_in w (by revert h; revert w; decide) _

/-- Every window's array but the result's ends as launched, and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c 0).trans (final_in m ρ c 0 (by decide)), (h.1 c 1).trans (final_in m ρ c 1 (by decide)),
      (h.1 c 2).trans (final_in m ρ c 2 (by decide)), (h.1 c 3).trans (final_in m ρ c 3 (by decide)), (h.1 c 4).trans (final_in m ρ c 4 (by decide)),
      (h.1 c 5).trans (final_in m ρ c 5 (by decide)), (h.1 c 6).trans (final_in m ρ c 6 (by decide))⟩, h.2⟩) (run_main m ρ)

end Cert.KernelIdeal.Hand
-- ==== Proof.KernelIdeal.Whole.lean ====
/- The windows' arrays and what the result's array ends with: every window is its whole array. -/
module

public import proofs.«01_k».proof.Proof.KernelIdeal.Run
public import Idealize.ShloMosaic.Lib.Pipeline.Value

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! A window of a whole array, read at its one block, gives the array. -/

theorem xs_eq (c : Dev nD) : xs m ρ c = m ((c : Thread nD τ).loc main_arg0) := by
  funext i
  show m ((c : Thread nD τ).loc main_arg0) ((win0_0.rect (0 : Fin 1)).emb i) = _
  refine congrArg _ (funext fun a => Fin.ext (win0_0.rect_emb_val_of_index_zero (0 : Fin 1) a rfl i))

theorem wi0_eq (c : Dev nD) : wi m ρ 0 c = m ((c : Thread nD τ).loc main_arg1) :=
  funext fun i => congrArg (m ((c : Thread nD τ).loc main_arg1)) (funext fun a => Fin.ext (win0_1.rect_emb_val_of_index_zero (0 : Fin 1) a rfl i))
theorem wi1_eq (c : Dev nD) : wi m ρ 1 c = m ((c : Thread nD τ).loc main_arg3) :=
  funext fun i => congrArg (m ((c : Thread nD τ).loc main_arg3)) (funext fun a => Fin.ext (win0_3.rect_emb_val_of_index_zero (0 : Fin 1) a rfl i))
theorem wi2_eq (c : Dev nD) : wi m ρ 2 c = m ((c : Thread nD τ).loc main_arg5) :=
  funext fun i => congrArg (m ((c : Thread nD τ).loc main_arg5)) (funext fun a => Fin.ext (win0_5.rect_emb_val_of_index_zero (0 : Fin 1) a rfl i))
theorem wo0_eq (c : Dev nD) : wo m ρ 0 c = m ((c : Thread nD τ).loc main_arg2) :=
  funext fun i => congrArg (m ((c : Thread nD τ).loc main_arg2)) (funext fun a => Fin.ext (win0_2.rect_emb_val_of_index_zero (0 : Fin 1) a rfl i))
theorem wo1_eq (c : Dev nD) : wo m ρ 1 c = m ((c : Thread nD τ).loc main_arg4) :=
  funext fun i => congrArg (m ((c : Thread nD τ).loc main_arg4)) (funext fun a => Fin.ext (win0_4.rect_emb_val_of_index_zero (0 : Fin 1) a rfl i))
theorem wo2_eq (c : Dev nD) : wo m ρ 2 c = m ((c : Thread nD τ).loc main_arg6) :=
  funext fun i => congrArg (m ((c : Thread nD τ).loc main_arg6)) (funext fun a => Fin.ext (win0_6.rect_emb_val_of_index_zero (0 : Fin 1) a rfl i))

theorem out_id (i : S64x1024.Idx) : (win0_7.rect (0 : Fin 1)).emb i = i :=
  funext fun a => Fin.ext (win0_7.rect_emb_val_of_index_zero (0 : Fin 1) a rfl i)

/-- The result's array ends with the input of the layer after the last. -/
theorem final_out (c : Dev nD) : finalA m ρ c 7 = xin m ρ 3 c := by
  refine (dats m ρ 0 c).arrAt_eq_of_cover 7 (xin m ρ 3 c) (fun t _ => ?_) (fun i => ⟨(0 : Fin 1), rfl, ?_⟩)
  · have : t = (0 : Fin 1) := Subsingleton.elim (α := Fin 1) _ _
    subst this
    exact funext fun i => (congrArg (xin m ρ 3 c) (out_id i)).symm
  · have h := (win0_7.blk (0 : Fin 1)).view.emb_mem_set (i : S64x1024.Idx)
    have e : (win0_7.blk (0 : Fin 1)).view.emb (i : S64x1024.Idx) = i := out_id i
    rw [e] at h; exact h

/-- Every device's result array ends with `xin 3`, and its arguments as launched. -/
theorem run_value : θ_run defs (onTc (τ := τ) (main (F := F))) ⟨m, fun _ => 0, ρ⟩ (fun r => ∀ c : Dev nD,
      r.2.mem ((c.tc : Thread nD τ).loc main_v1) = xin m ρ 3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c 7).trans (final_out m ρ c),
      (h.1 c 0).trans (final_in m ρ c 0 (by decide)), (h.1 c 1).trans (final_in m ρ c 1 (by decide)),
      (h.1 c 2).trans (final_in m ρ c 2 (by decide)), (h.1 c 3).trans (final_in m ρ c 3 (by decide)), (h.1 c 4).trans (final_in m ρ c 4 (by decide)),
      (h.1 c 5).trans (final_in m ρ c 5 (by decide)), (h.1 c 6).trans (final_in m ρ c 6 (by decide))⟩) (run_main m ρ)

end Cert.KernelIdeal.Hand
-- ==== Proof.KernelIdeal.Spec.lean ====
/- One layer of the network over the extended reals, and how its long sum splits over sixteen devices and
   four blocks of each. -/
module

public import Idealize.ShloMosaic.PureOps.Ideal.Laws
public import Idealize.ShloMosaic.Lib.ValueIdxCore

@[expose] public section

noncomputable section

namespace Cert.Mlp

open Idealize.ShloMosaic Idealize.ShloMosaic.ValueIdx
open scoped BigOperators

abbrev Act := (⟨2, ![64, 1024]⟩ : Shape).Idx → EReal
abbrev Win := (⟨2, ![1024, 32768]⟩ : Shape).Idx → EReal
abbrev Wout := (⟨2, ![32768, 1024]⟩ : Shape).Idx → EReal

/-- A hidden unit: the rectified product of a row of the input with a column of the first weight. -/
def hid (X : Act) (W : Win) (r : Fin 64) (k : Fin 32768) : EReal := max (∑ d : Fin 1024, X (ix2 r d) * W (ix2 d k)) 0

/-- One summand of a layer's result. -/
def term (X : Act) (W : Win) (U : Wout) (r : Fin 64) (c : Fin 1024) (k : Fin 32768) : EReal := hid X W r k * U (ix2 k c)

/-- A layer: the hidden row times the second weight. -/
def layer (X : Act) (W : Win) (U : Wout) : Act := fun i => ∑ k : Fin 32768, term X W U (i 0) (i 1) k

/-- The hidden unit `t` of block `j` of device `q`. -/
def unit (q : Fin 16) (j : Fin 4) (t : Fin 512) : Fin 32768 := ⟨q.val * 2048 + (512 * j.val + t.val), by omega⟩

/-- The hidden units by device, block and place. -/
def unitE : Fin 16 × Fin 4 × Fin 512 ≃ Fin 32768 where
  toFun p := unit p.1 p.2.1 p.2.2
  invFun k := (⟨k.val / 2048, by omega⟩, ⟨k.val % 2048 / 512, by omega⟩, ⟨k.val % 512, by omega⟩)
  left_inv := fun ⟨q, j, t⟩ => by
    refine Prod.ext (Fin.ext ?_) (Prod.ext (Fin.ext ?_) (Fin.ext ?_)) <;> simp only [unit] <;> omega
  right_inv k := by apply Fin.ext; simp only [unit]; omega

/-- The sum over the hidden units is the sum over devices of the sums over their blocks. -/
theorem sum_units (f : Fin 32768 → EReal) : ∑ k, f k = ∑ q : Fin 16, ∑ j : Fin 4, ∑ t : Fin 512, f (unit q j t) := by
  rw [← Equiv.sum_comp unitE f, Fintype.sum_prod_type]
  exact Finset.sum_congr rfl fun q _ => Fintype.sum_prod_type _

/-- A fold of additions over a list is the start plus the list's sum. -/
theorem foldl_add {α : Type} (f : α → EReal) : ∀ (l : List α) (a : EReal), l.foldl (fun a r => a + f r) a = a + (l.map f).sum
  | [], a => by simp
  | r :: l, a => by rw [List.foldl_cons, foldl_add f l, List.map_cons, List.sum_cons, add_assoc]

end Cert.Mlp
-- ==== Proof.KernelIdeal.Value.lean ====
/- The kernel's result over the extended reals: a device's partial product is the share of its hidden units, the exchange sums the shares, and three layers give the network. -/
module

public import proofs.«01_k».proof.Proof.KernelIdeal.Whole
public import proofs.«01_k».proof.Proof.KernelIdeal.Spec
public import Idealize.ShloMosaic.Lib.MatmulPlain

@[expose] public section

set_option synthInstance.maxSize 4096
set_option maxRecDepth 16000
set_option maxHeartbeats 400000

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Mlp
open scoped BigOperators

variable (m : (ℓ : Loc nD τ sig) → Buf (Elt Ideal) ℓ) (ρ : Dev nD → PrngReg)

/-- One block's contribution at a position: the sum over its hidden units. -/
theorem blockV_apply (x : FVec Ideal S64x1024 .f32) (w : Vec Ideal S1024x512 .f32) (u : Vec Ideal S512x1024 .f32) (r : Fin 64) (c : Fin 1024) :
    blockV x w u (ix2 r c) = ∑ t : Fin 512, max (∑ d : Fin 1024, x (ix2 r d) * w (ix2 d t)) 0 * u (ix2 t c) := by
  unfold blockV
  rw [shapeCast_self, shapeCast_self]
  refine (Ideal.matmul_plain_apply (M := 64) (K := 512) (N := 1024) none _ _ _ r c).trans ?_
  refine (congrArg (· + _) Ideal.ofBits_zero_f32).trans ((zero_add _).trans (Finset.sum_congr rfl fun t _ => congrArg (· * u (ix2 t c)) ?_))
  refine (congrArg₂ max ((Ideal.matmul_plain_apply (M := 64) (K := 1024) (N := 512) none x w _ r t).trans
    ((congrArg (· + _) Ideal.ofBits_zero_f32).trans (zero_add _))) Ideal.ofBits_zero_f32)

/-- A partial product at a position: its four blocks' contributions. -/
theorem partV_apply (x : FVec Ideal S64x1024 .f32) (w : Fin 4 → Vec Ideal S1024x512 .f32) (u : Fin 4 → Vec Ideal S512x1024 .f32) (i : S64x1024.Idx) :
    partV x w u i = ∑ j : Fin 4, blockV x (w j) (u j) i := by
  rw [Fin.sum_univ_four]
  show Ideal.ofBits .f32 0x00000000#32 + blockV x (w 0) (u 0) i + blockV x (w 1) (u 1) i + blockV x (w 2) (u 2) i + blockV x (w 3) (u 3) i = _
  rw [Ideal.ofBits_zero_f32, zero_add]

/-- The first weight of a device: its block of the whole one's columns. -/
def InBlk (W : Cert.Mlp.Win) (q : Fin 16) (w : Vec Ideal S1024x2048 .f32) : Prop :=
  w = Layout.block ⟨2, ![1024, 2048]⟩ ⟨2, ![1024, 32768]⟩ 1 16 q W
/-- The second weight of a device: its block of the whole one's rows. -/
def OutBlk (U : Cert.Mlp.Wout) (q : Fin 16) (u : Vec Ideal S2048x1024 .f32) : Prop :=
  u = Layout.block ⟨2, ![2048, 1024]⟩ ⟨2, ![32768, 1024]⟩ 0 16 q U

theorem inB_apply {W : Cert.Mlp.Win} {q : Fin 16} {w : Vec Ideal S1024x2048 .f32} (h : InBlk W q w) (j : Fin 4) (d : Fin 1024) (t : Fin 512) :
    inB w j (ix2 d t) = W (ix2 d (unit q j t)) := by
  rw [h]
  refine congrArg W (funext fun a => Fin.ext ?_)
  match a with
  | ⟨0, _⟩ => show 0 + 1 * d.val = d.val; omega
  | ⟨1, _⟩ => show q.val * 2048 + (512 * j.val + 1 * t.val) = q.val * 2048 + (512 * j.val + t.val); omega

theorem outB_apply {U : Cert.Mlp.Wout} {q : Fin 16} {u : Vec Ideal S2048x1024 .f32} (h : OutBlk U q u) (j : Fin 4) (t : Fin 512) (c : Fin 1024) :
    outB u j (ix2 t c) = U (ix2 (unit q j t) c) := by
  rw [h]
  refine congrArg U (funext fun a => Fin.ext ?_)
  match a with
  | ⟨0, _⟩ => show q.val * 2048 + (512 * j.val + 1 * t.val) = q.val * 2048 + (512 * j.val + t.val); omega
  | ⟨1, _⟩ => show 0 + 1 * c.val = c.val; omega

/-- A device's partial product is the sum of the layer's terms over its hidden units. -/
theorem partL_apply {W : Cert.Mlp.Win} {U : Cert.Mlp.Wout} {q : Fin 16} {w : Vec Ideal S1024x2048 .f32} {u : Vec Ideal S2048x1024 .f32}
    (hw : InBlk W q w) (hu : OutBlk U q u) (x : FVec Ideal S64x1024 .f32) (r : Fin 64) (c : Fin 1024) :
    partL x w u (ix2 r c) = ∑ j : Fin 4, ∑ t : Fin 512, term x W U r c (unit q j t) := by
  refine (partV_apply x _ _ _).trans (Finset.sum_congr rfl fun j _ => ?_)
  have e1 : (![inB w 0, inB w 1, inB w 2, inB w 3] : Fin 4 → Vec Ideal S1024x512 .f32) j = inB w j := by fin_cases j <;> rfl
  have e2 : (![outB u 0, outB u 1, outB u 2, outB u 3] : Fin 4 → Vec Ideal S512x1024 .f32) j = outB u j := by fin_cases j <;> rfl
  rw [e1, e2, blockV_apply]
  refine Finset.sum_congr rfl fun t _ => ?_
  rw [outB_apply hu]
  refine congrArg (fun z => max z 0 * U (ix2 (unit q j t) c)) (Finset.sum_congr rfl fun d _ => ?_)
  rw [inB_apply hw]

/-- The exchange's fold, read at a position. -/
theorem redL_fold (p : Dev nD → FVec Ideal S64x1024 .f32) (b : Dev nD) (i : S4x1024.Idx) : ∀ (l : List (Fin 15)) (a : FVec Ideal S4x1024 .f32),
    l.foldl (fun a r => accR a (rows b (truncf .bf16 (p (bwd b (up r))) bitsLt_bf16_f32))) a i
      = l.foldl (fun (z : EReal) r => z + p (bwd b (up r)) ((rowR b).emb i)) (a i)
  | [], a => rfl
  | r :: l, a => by rw [List.foldl_cons, redL_fold p b i l, List.foldl_cons]; rfl

/-- The reduced rows of a device are the sum over all devices. -/
theorem redL_apply (p : Dev nD → FVec Ideal S64x1024 .f32) (b : Dev nD) (i : S4x1024.Idx) :
    redL p b i = ∑ q : Fin 16, (p q ((rowR b).emb i) : EReal) := by
  have hs : ∑ q : Fin 16, (p q ((rowR b).emb i) : EReal) = ∑ d : Fin 16, (p (bwd b d) ((rowR b).emb i) : EReal) :=
    (Equiv.sum_comp (bwdE b) fun q => (p q ((rowR b).emb i) : EReal)).symm
  have h0 : bwd b 0 = b := by
    apply Fin.ext; have := b.isLt; change b.val < 16 at this; simp only [bwd, Fin.val_zero]; omega
  rw [hs, Fin.sum_univ_succ, h0, Fin.sum_univ_def]
  refine (redL_fold p b i rs15 _).trans ((foldl_add _ rs15 _).trans ?_)
  rfl

/-- The row of the whole result that a device's reduced row is. -/
theorem row_back (i : S64x1024.Idx) : (rowR (rowOwner i)).emb (rowPlace i) = i := by
  funext a; apply Fin.ext
  match a with
  | ⟨0, _⟩ => show 4 * ((i 0).val / 4) + 1 * ((i 0).val % 4) = (i 0).val; omega
  | ⟨1, _⟩ => show 0 + 1 * (i 1).val = (i 1).val; omega

/-- One layer of the kernel, on every device, is one layer of the network. -/
theorem xin_layer (k : Fin 3) (X : Cert.Mlp.Act) (W : Cert.Mlp.Win) (U : Cert.Mlp.Wout) (hx : ∀ q, xin m ρ k.val q = X)
    (hw : ∀ q, InBlk W q (wi m ρ k q)) (hu : ∀ q, OutBlk U q (wo m ρ k q)) (c : Dev nD) : xin m ρ (k.val + 1) c = layer X W U := by
  funext i
  rw [xin_succ]
  show redL (partC m ρ k) (rowOwner i) (rowPlace i) = _
  rw [redL_apply, row_back]
  unfold layer
  rw [sum_units]
  refine Finset.sum_congr rfl fun q _ => ?_
  unfold partC
  rw [hx q, eq_ix2 i]
  exact partL_apply (hw q) (hu q) X (i 0) (i 1)

/-- The three layers. -/
theorem xin_three (X : Cert.Mlp.Act) (W0 W1 W2 : Cert.Mlp.Win) (U0 U1 U2 : Cert.Mlp.Wout)
    (hx : ∀ q : Dev nD, m ((q : Thread nD τ).loc main_arg0) = X)
    (hw0 : ∀ q : Dev nD, InBlk W0 q (m ((q : Thread nD τ).loc main_arg1))) (hu0 : ∀ q : Dev nD, OutBlk U0 q (m ((q : Thread nD τ).loc main_arg2)))
    (hw1 : ∀ q : Dev nD, InBlk W1 q (m ((q : Thread nD τ).loc main_arg3))) (hu1 : ∀ q : Dev nD, OutBlk U1 q (m ((q : Thread nD τ).loc main_arg4)))
    (hw2 : ∀ q : Dev nD, InBlk W2 q (m ((q : Thread nD τ).loc main_arg5))) (hu2 : ∀ q : Dev nD, OutBlk U2 q (m ((q : Thread nD τ).loc main_arg6)))
    (c : Dev nD) : xin m ρ 3 c = layer (layer (layer X W0 U0) W1 U1) W2 U2 := by
  have h0 : ∀ q, xin m ρ (0 : Fin 3).val q = X := fun q => (xs_eq m ρ q).trans (hx q)
  have h1 := xin_layer m ρ 0 X W0 U0 h0 (fun q => (wi0_eq m ρ q).symm ▸ hw0 q) (fun q => (wo0_eq m ρ q).symm ▸ hu0 q)
  have h2 := xin_layer m ρ 1 _ W1 U1 h1 (fun q => (wi1_eq m ρ q).symm ▸ hw1 q) (fun q => (wo1_eq m ρ q).symm ▸ hu1 q)
  exact xin_layer m ρ 2 _ W2 U2 h2 (fun q => (wi2_eq m ρ q).symm ▸ hw2 q) (fun q => (wo2_eq m ρ q).symm ▸ hu2 q) c

end Cert.KernelIdeal.Hand
-- ==== Proof.Reference.Value.lean ====
/- The reference's result over the extended reals: three layers of the network. -/
module

public import proofs.«01_k».proof.Proof.Gen.ReferenceIdeal.Run
public import proofs.«01_k».proof.Proof.KernelIdeal.Spec
public import Idealize.ShloMosaic.Lib.StackMember

@[expose] public section

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Idealize.ShloMosaic.StackMember
open Cert.Mlp
open scoped BigOperators

/-- Two products with the rectifier between them are a layer. -/
theorem layer_eq (X : FVec Ideal S64x1024 .f32) (W : FVec Ideal S1024x32768 .f32) (U : FVec Ideal S32768x1024 .f32) :
    Host.dotGeneral dot_S64x32768_S32768x1024_S64x1024_1_0_0_1_n_n none
      (maximumf (Host.dotGeneral dot_S64x1024_S1024x32768_S64x32768_1_0_0_1_n_n none X W)
        (broadcastInDim S64x32768 ![] bcast_S_S64x32768 (constant S_ .f32 0x00000000#32))) U
      = layer X W U := by
  funext i
  rw [eq_ix2 i]
  refine (dotGeneral_plain_apply (m := 64) (k := 32768) (n := 1024) none _ U (i 0) (i 1)).trans ?_
  refine Finset.sum_congr rfl fun k _ => congrArg (· * U (ix2 k (i 1))) ?_
  exact congrArg₂ max (dotGeneral_plain_apply (m := 64) (k := 1024) (n := 32768) none X W (i 0) k) Ideal.ofBits_zero_f32

variable (m : (ℓ : Loc nD τ sig) → Buf (Elt Ideal) ℓ) (ρ : Dev nD → PrngReg)

/-- The network of the reference's arguments. -/
def net : Cert.Mlp.Act :=
  layer (layer (layer (m (((0 : Dev nD).tc : Thread nD τ).loc main_arg0)) (m (((0 : Dev nD).tc : Thread nD τ).loc main_arg1)) (m (((0 : Dev nD).tc : Thread nD τ).loc main_arg2)))
    (m (((0 : Dev nD).tc : Thread nD τ).loc main_arg3)) (m (((0 : Dev nD).tc : Thread nD τ).loc main_arg4)))
    (m (((0 : Dev nD).tc : Thread nD τ).loc main_arg5)) (m (((0 : Dev nD).tc : Thread nD τ).loc main_arg6))

/-- The reference ends with the network of its arguments, and its arguments as launched. -/
theorem run_value : θ_run defs (onTc (τ := τ) (main (F := Ideal))) ⟨m, fun _ => 0, ρ⟩ fun r =>
      r.2.mem (((0 : Dev nD).tc : Thread nD τ).loc main_v11) = net m
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4)
      ∧ r.2.mem (((0 : Dev nD).tc : Thread nD τ).loc main_arg5) = m (((0 : Dev nD).tc : Thread nD τ).loc main_arg5)
      ∧ r.2.mem (((0 : Dev nD).tc : Thread nD τ).loc main_arg6) = m (((0 : Dev nD).tc : Thread nD τ).loc main_arg6) :=
  (θ_run defs _ _).mono (fun r h => ⟨(h 0).1.trans (by rw [layer_eq, layer_eq, layer_eq]; rfl), (h 0).2⟩) (Cert.ReferenceIdeal.Value.run (F := Ideal) m ρ)

end Cert.ReferenceIdeal.Hand
-- ==== Proof.lean ====
/- The certificate: the three frames, the idealization, and the equality with the reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import proofs.«01_k».proof.Proof.Reference.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel on sixteen devices ends with its arguments as launched and every semaphore at zero. -/
theorem frame_kernel : Cert.quiescent_Kernel (hKernel := Cert.Kernel.Gen.facts) := fun m g _ => Cert.Kernel.Hand.run_frame m g

/-- So does its idealization. -/
theorem frame_ideal : Cert.quiescent_KernelIdeal (hKernelIdeal := Cert.KernelIdeal.Gen.facts) := fun m g _ =>
  Cert.KernelIdeal.Hand.run_frame m g

/-- So does the reference, which has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device's result is the reference's whole result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.ReferenceIdeal.Hand.net m', ?_, Cert.ReferenceIdeal.Hand.run_value m' g'⟩
  refine (θ_run Cert.KernelIdeal.defs _ _).mono (fun r h c => ⟨(h c).1.trans ?_, (h c).2⟩) (Cert.KernelIdeal.Hand.run_value (F := Ideal) m g)
  exact Cert.KernelIdeal.Hand.xin_three m g _ _ _ _ _ _ _ (fun q => (hagree q).1) (fun q => (hagree q).2.1) (fun q => (hagree q).2.2.1)
    (fun q => (hagree q).2.2.2.1) (fun q => (hagree q).2.2.2.2.1) (fun q => (hagree q).2.2.2.2.2.1) (fun q => (hagree q).2.2.2.2.2.2) c

theorem claim : Cert.Claim := ⟨Cert.Kernel.Gen.facts, Cert.KernelIdeal.Gen.facts, Cert.ReferenceIdeal.Gen.facts,
  frame_kernel, frame_ideal, frame_reference, trivial, algebraic⟩

end Cert.Proof

end
